-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩
abbrev S16x1x64 : Shape := ⟨3, ![16, 1, 64]⟩
abbrev S16x16x64 : Shape := ⟨3, ![16, 16, 64]⟩
abbrev S16x16 : Shape := ⟨2, ![16, 16]⟩

class Facts : Prop where
  bcast_S_S1024x1 : S_.BroadcastsInDim S1024x1 (![] : Fin 0 → Fin S1024x1.rank)
  shapeCasts_S1024x1_S16x1x64 : S1024x1.ShapeCasts S16x1x64
  bcast_S_S16x16x64 : S_.BroadcastsInDim S16x16x64 (![] : Fin 0 → Fin S16x16x64.rank)
  bcast_S16x1x64_S16x16x64_0_1_2 : S16x1x64.BroadcastsInDim S16x16x64 (![0, 1, 2] : Fin 3 → Fin S16x16x64.rank)
  natLt_1_32 : 1 < 32
  reducesTo_S16x16x64_S16x16_d2 : S16x16x64.ReducesTo [2] S16x16
  h_S_ : 0 < S_.numel
  bitsLt_bf16_f32 : FTy.bits .bf16 < FTy.bits .f32
  bcast_S_S1024x256 : S_.BroadcastsInDim S1024x256 (![] : Fin 0 → Fin S1024x256.rank)
  bcast_S_S256x64 : S_.BroadcastsInDim S256x64 (![] : Fin 0 → Fin S256x64.rank)
  bcast_S_S16x16 : S_.BroadcastsInDim S16x16 (![] : Fin 0 → Fin S16x16.rank)

variable [Facts]

def fn_part1 {F : FTy → Type} [FloatOps F] (main_arg1 : FVec F S256x64 .bf16) (main_v4 : IVec S1024x1 1) (main_v17 : IVec S16x16 32) (main_v18 : FVec F S1024x256 .f32) : IVec S1024x1 1 × IVec S16x16 1 × IVec S1024x256 1 × IVec S256x64 1 :=
  let main_v19 : FVec F S1024x256 .f32 := Host.absf main_v18
  let main_cst : FVec F S_ .f32 := constant S_ .f32 0x7F800000#32
  let main_v20 : FVec F S1024x256 .f32 := broadcastInDim S1024x256 ![] bcast_S_S1024x256 main_cst
  let main_v21 : IVec S1024x256 1 := cmpf .olt main_v19 main_v20
  let main_v22 : FVec F S256x64 .f32 := (extf .f32 · bitsLt_bf16_f32) main_arg1
  let main_v23 : FVec F S256x64 .f32 := Host.absf main_v22
  let main_cst_4 : FVec F S_ .f32 := constant S_ .f32 0x7F800000#32
  let main_v24 : FVec F S256x64 .f32 := broadcastInDim S256x64 ![] bcast_S_S256x64 main_cst_4
  let main_v25 : IVec S256x64 1 := cmpf .olt main_v23 main_v24
  let main_c_5 : IVec S_ 32 := constantI S_ 32 16#32
  let main_v26 : IVec S16x16 32 := broadcastInDim S16x16 ![] bcast_S_S16x16 main_c_5
  let main_v27 : IVec S16x16 1 := cmpi .sle main_v17 main_v26
  (main_v4, main_v27, main_v21, main_v25)

def fn {F : FTy → Type} [FloatOps F] (main_arg0 : FVec F S1024x256 .bf16) (main_arg1 : FVec F S256x64 .bf16) (main_arg2 : IVec S1024x1 32) (main_arg3 : FVec F S4x256x512 .bf16) (main_arg4 : FVec F S256x512 .bf16) : IVec S1024x1 1 × IVec S16x16 1 × IVec S1024x256 1 × IVec S256x64 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S16x1x64 32 := shapeCast S16x1x64 main_arg2 shapeCasts_S1024x1_S16x1x64
  let main_v6 : IVec S16x16x64 32 := iotaInDim S16x16x64 32 1
  let main_c_1 : IVec S_ 32 := constantI S_ 32 4#32
  let main_v7 : IVec S16x16x64 32 := broadcastInDim S16x16x64 ![] bcast_S_S16x16x64 main_c_1
  let main_v8 : IVec S16x16x64 32 := muli main_v7 main_v6
  let main_v9 : IVec S16x16x64 32 := broadcastInDim S16x16x64 ![0, 1, 2] bcast_S16x1x64_S16x16x64_0_1_2 main_v5
  let main_v10 : IVec S16x16x64 1 := cmpi .sle main_v8 main_v9
  let main_c_2 : IVec S_ 32 := constantI S_ 32 4#32
  let main_v11 : IVec S16x16x64 32 := broadcastInDim S16x16x64 ![] bcast_S_S16x16x64 main_c_2
  let main_v12 : IVec S16x16x64 32 := addi main_v8 main_v11
  let main_v13 : IVec S16x16x64 32 := broadcastInDim S16x16x64 ![0, 1, 2] bcast_S16x1x64_S16x16x64_0_1_2 main_v5
  let main_v14 : IVec S16x16x64 1 := cmpi .slt main_v13 main_v12
  let main_v15 : IVec S16x16x64 1 := andi main_v10 main_v14
  let main_v16 : IVec S16x16x64 32 := (extui 32 · natLt_1_32) main_v15
  let main_c_3 : IVec S_ 32 := constantI S_ 32 0#32
  let main_v17 : IVec S16x16 32 := (fun x v => Host.reduce IntOp.addi x v reducesTo_S16x16x64_S16x16_d2 h_S_) main_v16 main_c_3
  let main_v18 : FVec F S1024x256 .f32 := (extf .f32 · bitsLt_bf16_f32) main_arg0
  fn_part1 (F := F) main_arg1 main_v4 main_v17 main_v18
-- ==== Pre_within_capacity_ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S_ : Shape := ⟨0, ![]⟩
abbrev S16x1x64 : Shape := ⟨3, ![16, 1, 64]⟩
abbrev S16x16x64 : Shape := ⟨3, ![16, 16, 64]⟩
abbrev S16x16 : Shape := ⟨2, ![16, 16]⟩

class Facts : Prop where
  bcast_S_S1024x1 : S_.BroadcastsInDim S1024x1 (![] : Fin 0 → Fin S1024x1.rank)
  shapeCasts_S1024x1_S16x1x64 : S1024x1.ShapeCasts S16x1x64
  bcast_S_S16x16x64 : S_.BroadcastsInDim S16x16x64 (![] : Fin 0 → Fin S16x16x64.rank)
  bcast_S16x1x64_S16x16x64_0_1_2 : S16x1x64.BroadcastsInDim S16x16x64 (![0, 1, 2] : Fin 3 → Fin S16x16x64.rank)
  natLt_1_32 : 1 < 32
  reducesTo_S16x16x64_S16x16_d2 : S16x16x64.ReducesTo [2] S16x16
  h_S_ : 0 < S_.numel
  bitsLt_bf16_f32 : FTy.bits .bf16 < FTy.bits .f32
  bcast_S_S1024x256 : S_.BroadcastsInDim S1024x256 (![] : Fin 0 → Fin S1024x256.rank)
  bcast_S_S256x64 : S_.BroadcastsInDim S256x64 (![] : Fin 0 → Fin S256x64.rank)
  bcast_S_S16x16 : S_.BroadcastsInDim S16x16 (![] : Fin 0 → Fin S16x16.rank)

variable [Facts]

def fn_part1 {F : FTy → Type} [FloatOps F] (main_arg1 : FVec F S256x64 .bf16) (main_v4 : IVec S1024x1 1) (main_v17 : IVec S16x16 32) (main_v18 : FVec F S1024x256 .f32) : IVec S1024x1 1 × IVec S16x16 1 × IVec S1024x256 1 × IVec S256x64 1 :=
  let main_v19 : FVec F S1024x256 .f32 := Host.absf main_v18
  let main_cst : FVec F S_ .f32 := constant S_ .f32 0x7F800000#32
  let main_v20 : FVec F S1024x256 .f32 := broadcastInDim S1024x256 ![] bcast_S_S1024x256 main_cst
  let main_v21 : IVec S1024x256 1 := cmpf .olt main_v19 main_v20
  let main_v22 : FVec F S256x64 .f32 := (extf .f32 · bitsLt_bf16_f32) main_arg1
  let main_v23 : FVec F S256x64 .f32 := Host.absf main_v22
  let main_cst_4 : FVec F S_ .f32 := constant S_ .f32 0x7F800000#32
  let main_v24 : FVec F S256x64 .f32 := broadcastInDim S256x64 ![] bcast_S_S256x64 main_cst_4
  let main_v25 : IVec S256x64 1 := cmpf .olt main_v23 main_v24
  let main_c_5 : IVec S_ 32 := constantI S_ 32 16#32
  let main_v26 : IVec S16x16 32 := broadcastInDim S16x16 ![] bcast_S_S16x16 main_c_5
  let main_v27 : IVec S16x16 1 := cmpi .sle main_v17 main_v26
  (main_v4, main_v27, main_v21, main_v25)

def fn {F : FTy → Type} [FloatOps F] (main_arg0 : FVec F S1024x256 .bf16) (main_arg1 : FVec F S256x64 .bf16) (main_arg2 : IVec S1024x1 32) (main_arg3 : FVec F S64x256x512 .bf16) (main_arg4 : FVec F S256x512 .bf16) : IVec S1024x1 1 × IVec S16x16 1 × IVec S1024x256 1 × IVec S256x64 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S16x1x64 32 := shapeCast S16x1x64 main_arg2 shapeCasts_S1024x1_S16x1x64
  let main_v6 : IVec S16x16x64 32 := iotaInDim S16x16x64 32 1
  let main_c_1 : IVec S_ 32 := constantI S_ 32 4#32
  let main_v7 : IVec S16x16x64 32 := broadcastInDim S16x16x64 ![] bcast_S_S16x16x64 main_c_1
  let main_v8 : IVec S16x16x64 32 := muli main_v7 main_v6
  let main_v9 : IVec S16x16x64 32 := broadcastInDim S16x16x64 ![0, 1, 2] bcast_S16x1x64_S16x16x64_0_1_2 main_v5
  let main_v10 : IVec S16x16x64 1 := cmpi .sle main_v8 main_v9
  let main_c_2 : IVec S_ 32 := constantI S_ 32 4#32
  let main_v11 : IVec S16x16x64 32 := broadcastInDim S16x16x64 ![] bcast_S_S16x16x64 main_c_2
  let main_v12 : IVec S16x16x64 32 := addi main_v8 main_v11
  let main_v13 : IVec S16x16x64 32 := broadcastInDim S16x16x64 ![0, 1, 2] bcast_S16x1x64_S16x16x64_0_1_2 main_v5
  let main_v14 : IVec S16x16x64 1 := cmpi .slt main_v13 main_v12
  let main_v15 : IVec S16x16x64 1 := andi main_v10 main_v14
  let main_v16 : IVec S16x16x64 32 := (extui 32 · natLt_1_32) main_v15
  let main_c_3 : IVec S_ 32 := constantI S_ 32 0#32
  let main_v17 : IVec S16x16 32 := (fun x v => Host.reduce IntOp.addi x v reducesTo_S16x16x64_S16x16_d2 h_S_) main_v16 main_c_3
  let main_v18 : FVec F S1024x256 .f32 := (extf .f32 · bitsLt_bf16_f32) main_arg0
  fn_part1 (F := F) main_arg1 main_v4 main_v17 main_v18
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S16x16x512 : Shape := ⟨3, ![16, 16, 512]⟩
abbrev S16 : Shape := ⟨1, ![16]⟩
abbrev S_ : Shape := ⟨0, ![]⟩
abbrev S1024x64 : Shape := ⟨2, ![1024, 64]⟩
abbrev S1024 : Shape := ⟨1, ![1024]⟩
abbrev S16x64 : Shape := ⟨2, ![16, 64]⟩
abbrev S64x64 : Shape := ⟨2, ![64, 64]⟩
abbrev S1x64 : Shape := ⟨2, ![1, 64]⟩
abbrev S64x256 : Shape := ⟨2, ![64, 256]⟩
abbrev S16x256 : Shape := ⟨2, ![16, 256]⟩
abbrev S64x1 : Shape := ⟨2, ![64, 1]⟩
abbrev S16x1 : Shape := ⟨2, ![16, 1]⟩
abbrev S256x256 : Shape := ⟨2, ![256, 256]⟩
abbrev S256x1 : Shape := ⟨2, ![256, 1]⟩
abbrev S1x256x512 : Shape := ⟨3, ![1, 256, 512]⟩
abbrev S16x512 : Shape := ⟨2, ![16, 512]⟩
abbrev S1x16x512 : Shape := ⟨3, ![1, 16, 512]⟩
abbrev S1 : Shape := ⟨1, ![1]⟩
abbrev S64x512 : Shape := ⟨2, ![64, 512]⟩
abbrev S64x16 : Shape := ⟨2, ![64, 16]⟩
abbrev S64 : Shape := ⟨1, ![64]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .bf16⟩
  | .local _ .vmem, ⟨0, _⟩ => ⟨S1024x256, .bf16⟩
  | .local _ .vmem, ⟨1, _⟩ => ⟨S256x64, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .bf16⟩
  | .local _ .vmem, ⟨6, _⟩ => ⟨S16x16x512, .bf16⟩
  | .local _ .vmem, ⟨7, _⟩ => ⟨S16x16x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_239 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v651 : BitVec 32 := Scalar.addi v2 c1_i32_239
  let c16_i32_240 : BitVec 32 := 16#32
  let v652 : BitVec 32 := Scalar.remsi v651 c16_i32_240
  let c0_i32_248 : BitVec 32 := 0#32
  let c0_i32_249 : BitVec 32 := 0#32
  ![v652.toNat, 0, 0]
def k0_dev16 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_239 : BitVec 32 := 1#32
  let v651 : BitVec 32 := Scalar.addi v2 c1_i32_239
  let c16_i32_240 : BitVec 32 := 16#32
  let v652 : BitVec 32 := Scalar.remsi v651 c16_i32_240
  let c1_i32_244 : BitVec 32 := 1#32
  let v653 : BitVec 32 := Scalar.muli v652 c1_i32_244
  let v654 : BitVec 32 := Scalar.addi c0_i32_245 v653
  v654.toNat
def k0_dev17 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_250 : BitVec 32 := 2#32
  let v663 : BitVec 32 := Scalar.addi v2 c2_i32_250
  let c16_i32_251 : BitVec 32 := 16#32
  let v664 : BitVec 32 := Scalar.remsi v663 c16_i32_251
  let c1_i32_255 : BitVec 32 := 1#32
  let v665 : BitVec 32 := Scalar.muli v664 c1_i32_255
  let v666 : BitVec 32 := Scalar.addi c0_i32_256 v665
  v666.toNat
def k0_dev18 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_261 : BitVec 32 := 3#32
  let v675 : BitVec 32 := Scalar.addi v2 c3_i32_261
  let c16_i32_262 : BitVec 32 := 16#32
  let v676 : BitVec 32 := Scalar.remsi v675 c16_i32_262
  let c1_i32_266 : BitVec 32 := 1#32
  let v677 : BitVec 32 := Scalar.muli v676 c1_i32_266
  let v678 : BitVec 32 := Scalar.addi c0_i32_267 v677
  v678.toNat
def k0_dev19 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_272 : BitVec 32 := 4#32
  let v687 : BitVec 32 := Scalar.addi v2 c4_i32_272
  let c16_i32_273 : BitVec 32 := 16#32
  let v688 : BitVec 32 := Scalar.remsi v687 c16_i32_273
  let c1_i32_277 : BitVec 32 := 1#32
  let v689 : BitVec 32 := Scalar.muli v688 c1_i32_277
  let v690 : BitVec 32 := Scalar.addi c0_i32_278 v689
  v690.toNat
def k0_dev20 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_283 : BitVec 32 := 5#32
  let v699 : BitVec 32 := Scalar.addi v2 c5_i32_283
  let c16_i32_284 : BitVec 32 := 16#32
  let v700 : BitVec 32 := Scalar.remsi v699 c16_i32_284
  let c1_i32_288 : BitVec 32 := 1#32
  let v701 : BitVec 32 := Scalar.muli v700 c1_i32_288
  let v702 : BitVec 32 := Scalar.addi c0_i32_289 v701
  v702.toNat
def k0_dev21 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_294 : BitVec 32 := 6#32
  let v711 : BitVec 32 := Scalar.addi v2 c6_i32_294
  let c16_i32_295 : BitVec 32 := 16#32
  let v712 : BitVec 32 := Scalar.remsi v711 c16_i32_295
  let c1_i32_299 : BitVec 32 := 1#32
  let v713 : BitVec 32 := Scalar.muli v712 c1_i32_299
  let v714 : BitVec 32 := Scalar.addi c0_i32_300 v713
  v714.toNat
def k0_dev22 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_305 : BitVec 32 := 7#32
  let v723 : BitVec 32 := Scalar.addi v2 c7_i32_305
  let c16_i32_306 : BitVec 32 := 16#32
  let v724 : BitVec 32 := Scalar.remsi v723 c16_i32_306
  let c1_i32_310 : BitVec 32 := 1#32
  let v725 : BitVec 32 := Scalar.muli v724 c1_i32_310
  let v726 : BitVec 32 := Scalar.addi c0_i32_311 v725
  v726.toNat
def k0_dev23 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_316 : BitVec 32 := 8#32
  let v735 : BitVec 32 := Scalar.addi v2 c8_i32_316
  let c16_i32_317 : BitVec 32 := 16#32
  let v736 : BitVec 32 := Scalar.remsi v735 c16_i32_317
  let c1_i32_321 : BitVec 32 := 1#32
  let v737 : BitVec 32 := Scalar.muli v736 c1_i32_321
  let v738 : BitVec 32 := Scalar.addi c0_i32_322 v737
  v738.toNat
def k0_dev24 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_327 : BitVec 32 := 9#32
  let v747 : BitVec 32 := Scalar.addi v2 c9_i32_327
  let c16_i32_328 : BitVec 32 := 16#32
  let v748 : BitVec 32 := Scalar.remsi v747 c16_i32_328
  let c1_i32_332 : BitVec 32 := 1#32
  let v749 : BitVec 32 := Scalar.muli v748 c1_i32_332
  let v750 : BitVec 32 := Scalar.addi c0_i32_333 v749
  v750.toNat
def k0_dev25 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_338 : BitVec 32 := 10#32
  let v759 : BitVec 32 := Scalar.addi v2 c10_i32_338
  let c16_i32_339 : BitVec 32 := 16#32
  let v760 : BitVec 32 := Scalar.remsi v759 c16_i32_339
  let c1_i32_343 : BitVec 32 := 1#32
  let v761 : BitVec 32 := Scalar.muli v760 c1_i32_343
  let v762 : BitVec 32 := Scalar.addi c0_i32_344 v761
  v762.toNat
def k0_dev26 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_349 : BitVec 32 := 11#32
  let v771 : BitVec 32 := Scalar.addi v2 c11_i32_349
  let c16_i32_350 : BitVec 32 := 16#32
  let v772 : BitVec 32 := Scalar.remsi v771 c16_i32_350
  let c1_i32_354 : BitVec 32 := 1#32
  let v773 : BitVec 32 := Scalar.muli v772 c1_i32_354
  let v774 : BitVec 32 := Scalar.addi c0_i32_355 v773
  v774.toNat
def k0_dev27 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_360 : BitVec 32 := 12#32
  let v783 : BitVec 32 := Scalar.addi v2 c12_i32_360
  let c16_i32_361 : BitVec 32 := 16#32
  let v784 : BitVec 32 := Scalar.remsi v783 c16_i32_361
  let c1_i32_365 : BitVec 32 := 1#32
  let v785 : BitVec 32 := Scalar.muli v784 c1_i32_365
  let v786 : BitVec 32 := Scalar.addi c0_i32_366 v785
  v786.toNat
def k0_dev28 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_371 : BitVec 32 := 13#32
  let v795 : BitVec 32 := Scalar.addi v2 c13_i32_371
  let c16_i32_372 : BitVec 32 := 16#32
  let v796 : BitVec 32 := Scalar.remsi v795 c16_i32_372
  let c1_i32_376 : BitVec 32 := 1#32
  let v797 : BitVec 32 := Scalar.muli v796 c1_i32_376
  let v798 : BitVec 32 := Scalar.addi c0_i32_377 v797
  v798.toNat
def k0_dev29 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_382 : BitVec 32 := 14#32
  let v807 : BitVec 32 := Scalar.addi v2 c14_i32_382
  let c16_i32_383 : BitVec 32 := 16#32
  let v808 : BitVec 32 := Scalar.remsi v807 c16_i32_383
  let c1_i32_387 : BitVec 32 := 1#32
  let v809 : BitVec 32 := Scalar.muli v808 c1_i32_387
  let v810 : BitVec 32 := Scalar.addi c0_i32_388 v809
  v810.toNat
def k0_dev30 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_393 : BitVec 32 := 15#32
  let v819 : BitVec 32 := Scalar.addi v2 c15_i32_393
  let c16_i32_394 : BitVec 32 := 16#32
  let v820 : BitVec 32 := Scalar.remsi v819 c16_i32_394
  let c1_i32_398 : BitVec 32 := 1#32
  let v821 : BitVec 32 := Scalar.muli v820 c1_i32_398
  let v822 : BitVec 32 := Scalar.addi c0_i32_399 v821
  v822.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v831 : Index := Scalar.indexCast v2
  let c0_404 : Index := 0#32
  let c0_405 : Index := 0#32
  ![v831.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v837 : BitVec 32 := Scalar.muli v2 c64_i32
  let v838 : Index := Scalar.indexCast v837
  let c0_409 : Index := 0#32
  ![v838.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_413 : BitVec 32 := 64#32
  let v844 : BitVec 32 := Scalar.muli v2 c64_i32_413
  let v845 : Index := Scalar.indexCast v844
  let c0_414 : Index := 0#32
  ![v845.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_598 : BitVec 32 := 64#32
  let v1076 : BitVec 32 := Scalar.muli v2 c64_i32_598
  let v1077 : Index := Scalar.indexCast v1076
  let c0_599 : Index := 0#32
  ![v1077.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_603 : BitVec 32 := 64#32
  let v1082 : BitVec 32 := Scalar.muli v2 c64_i32_603
  let c0_i32_608 : BitVec 32 := 0#32
  ![v1082.toNat, 0]
def k0_dev31 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_600 : BitVec 32 := 1#32
  let v1079 : BitVec 32 := Scalar.addi v2 c1_i32_600
  let c16_i32_601 : BitVec 32 := 16#32
  let v1080 : BitVec 32 := Scalar.remsi v1079 c16_i32_601
  let c1_i32_606 : BitVec 32 := 1#32
  let v1083 : BitVec 32 := Scalar.muli v1080 c1_i32_606
  let v1084 : BitVec 32 := Scalar.addi c0_i32_607 v1083
  v1084.toNat
def k0_dev32 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_610 : BitVec 32 := 2#32
  let v1091 : BitVec 32 := Scalar.addi v2 c2_i32_610
  let c16_i32_611 : BitVec 32 := 16#32
  let v1092 : BitVec 32 := Scalar.remsi v1091 c16_i32_611
  let c1_i32_616 : BitVec 32 := 1#32
  let v1095 : BitVec 32 := Scalar.muli v1092 c1_i32_616
  let v1096 : BitVec 32 := Scalar.addi c0_i32_617 v1095
  v1096.toNat
def k0_dev33 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_620 : BitVec 32 := 3#32
  let v1103 : BitVec 32 := Scalar.addi v2 c3_i32_620
  let c16_i32_621 : BitVec 32 := 16#32
  let v1104 : BitVec 32 := Scalar.remsi v1103 c16_i32_621
  let c1_i32_626 : BitVec 32 := 1#32
  let v1107 : BitVec 32 := Scalar.muli v1104 c1_i32_626
  let v1108 : BitVec 32 := Scalar.addi c0_i32_627 v1107
  v1108.toNat
def k0_dev34 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_630 : BitVec 32 := 4#32
  let v1115 : BitVec 32 := Scalar.addi v2 c4_i32_630
  let c16_i32_631 : BitVec 32 := 16#32
  let v1116 : BitVec 32 := Scalar.remsi v1115 c16_i32_631
  let c1_i32_636 : BitVec 32 := 1#32
  let v1119 : BitVec 32 := Scalar.muli v1116 c1_i32_636
  let v1120 : BitVec 32 := Scalar.addi c0_i32_637 v1119
  v1120.toNat
def k0_dev35 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_640 : BitVec 32 := 5#32
  let v1127 : BitVec 32 := Scalar.addi v2 c5_i32_640
  let c16_i32_641 : BitVec 32 := 16#32
  let v1128 : BitVec 32 := Scalar.remsi v1127 c16_i32_641
  let c1_i32_646 : BitVec 32 := 1#32
  let v1131 : BitVec 32 := Scalar.muli v1128 c1_i32_646
  let v1132 : BitVec 32 := Scalar.addi c0_i32_647 v1131
  v1132.toNat
def k0_dev36 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_650 : BitVec 32 := 6#32
  let v1139 : BitVec 32 := Scalar.addi v2 c6_i32_650
  let c16_i32_651 : BitVec 32 := 16#32
  let v1140 : BitVec 32 := Scalar.remsi v1139 c16_i32_651
  let c1_i32_656 : BitVec 32 := 1#32
  let v1143 : BitVec 32 := Scalar.muli v1140 c1_i32_656
  let v1144 : BitVec 32 := Scalar.addi c0_i32_657 v1143
  v1144.toNat
def k0_dev37 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_660 : BitVec 32 := 7#32
  let v1151 : BitVec 32 := Scalar.addi v2 c7_i32_660
  let c16_i32_661 : BitVec 32 := 16#32
  let v1152 : BitVec 32 := Scalar.remsi v1151 c16_i32_661
  let c1_i32_666 : BitVec 32 := 1#32
  let v1155 : BitVec 32 := Scalar.muli v1152 c1_i32_666
  let v1156 : BitVec 32 := Scalar.addi c0_i32_667 v1155
  v1156.toNat
def k0_dev38 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_670 : BitVec 32 := 8#32
  let v1163 : BitVec 32 := Scalar.addi v2 c8_i32_670
  let c16_i32_671 : BitVec 32 := 16#32
  let v1164 : BitVec 32 := Scalar.remsi v1163 c16_i32_671
  let c1_i32_676 : BitVec 32 := 1#32
  let v1167 : BitVec 32 := Scalar.muli v1164 c1_i32_676
  let v1168 : BitVec 32 := Scalar.addi c0_i32_677 v1167
  v1168.toNat
def k0_dev39 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_680 : BitVec 32 := 9#32
  let v1175 : BitVec 32 := Scalar.addi v2 c9_i32_680
  let c16_i32_681 : BitVec 32 := 16#32
  let v1176 : BitVec 32 := Scalar.remsi v1175 c16_i32_681
  let c1_i32_686 : BitVec 32 := 1#32
  let v1179 : BitVec 32 := Scalar.muli v1176 c1_i32_686
  let v1180 : BitVec 32 := Scalar.addi c0_i32_687 v1179
  v1180.toNat
def k0_dev40 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_690 : BitVec 32 := 10#32
  let v1187 : BitVec 32 := Scalar.addi v2 c10_i32_690
  let c16_i32_691 : BitVec 32 := 16#32
  let v1188 : BitVec 32 := Scalar.remsi v1187 c16_i32_691
  let c1_i32_696 : BitVec 32 := 1#32
  let v1191 : BitVec 32 := Scalar.muli v1188 c1_i32_696
  let v1192 : BitVec 32 := Scalar.addi c0_i32_697 v1191
  v1192.toNat
def k0_dev41 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_700 : BitVec 32 := 11#32
  let v1199 : BitVec 32 := Scalar.addi v2 c11_i32_700
  let c16_i32_701 : BitVec 32 := 16#32
  let v1200 : BitVec 32 := Scalar.remsi v1199 c16_i32_701
  let c1_i32_706 : BitVec 32 := 1#32
  let v1203 : BitVec 32 := Scalar.muli v1200 c1_i32_706
  let v1204 : BitVec 32 := Scalar.addi c0_i32_707 v1203
  v1204.toNat
def k0_dev42 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_710 : BitVec 32 := 12#32
  let v1211 : BitVec 32 := Scalar.addi v2 c12_i32_710
  let c16_i32_711 : BitVec 32 := 16#32
  let v1212 : BitVec 32 := Scalar.remsi v1211 c16_i32_711
  let c1_i32_716 : BitVec 32 := 1#32
  let v1215 : BitVec 32 := Scalar.muli v1212 c1_i32_716
  let v1216 : BitVec 32 := Scalar.addi c0_i32_717 v1215
  v1216.toNat
def k0_dev43 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_720 : BitVec 32 := 13#32
  let v1223 : BitVec 32 := Scalar.addi v2 c13_i32_720
  let c16_i32_721 : BitVec 32 := 16#32
  let v1224 : BitVec 32 := Scalar.remsi v1223 c16_i32_721
  let c1_i32_726 : BitVec 32 := 1#32
  let v1227 : BitVec 32 := Scalar.muli v1224 c1_i32_726
  let v1228 : BitVec 32 := Scalar.addi c0_i32_727 v1227
  v1228.toNat
def k0_dev44 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_730 : BitVec 32 := 14#32
  let v1235 : BitVec 32 := Scalar.addi v2 c14_i32_730
  let c16_i32_731 : BitVec 32 := 16#32
  let v1236 : BitVec 32 := Scalar.remsi v1235 c16_i32_731
  let c1_i32_736 : BitVec 32 := 1#32
  let v1239 : BitVec 32 := Scalar.muli v1236 c1_i32_736
  let v1240 : BitVec 32 := Scalar.addi c0_i32_737 v1239
  v1240.toNat
def k0_dev45 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_740 : BitVec 32 := 15#32
  let v1247 : BitVec 32 := Scalar.addi v2 c15_i32_740
  let c16_i32_741 : BitVec 32 := 16#32
  let v1248 : BitVec 32 := Scalar.remsi v1247 c16_i32_741
  let c1_i32_746 : BitVec 32 := 1#32
  let v1251 : BitVec 32 := Scalar.muli v1248 c1_i32_746
  let v1252 : BitVec 32 := Scalar.addi c0_i32_747 v1251
  v1252.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S1024x64 : Shape := ⟨2, ![1024, 64]⟩
abbrev S_ : Shape := ⟨0, ![]⟩
abbrev S1024 : Shape := ⟨1, ![1024]⟩
abbrev S1024x512 : Shape := ⟨2, ![1024, 512]⟩
abbrev S1024x1x1 : Shape := ⟨3, ![1024, 1, 1]⟩
abbrev S1024x256x512 : Shape := ⟨3, ![1024, 256, 512]⟩

abbrev nBuf : Space → Nat
  | .hbm => 39
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S64x256x512, .bf16⟩
  | .hbm, ⟨4, _⟩ => ⟨S256x512, .bf16⟩
  | .hbm, ⟨5, _⟩ => ⟨S1024x256, .f32⟩
  | .hbm, ⟨6, _⟩ => ⟨S256x64, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x64, .f32⟩
  | .hbm, ⟨18, _⟩ => ⟨S1024x64, .f32⟩
  | .hbm, ⟨19, _⟩ => ⟨S256x512, .f32⟩
  | .hbm, ⟨20, _⟩ => ⟨S1024x512, .f32⟩
  | .hbm, ⟨21, _⟩ => ⟨S1024, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1024x1, .f32⟩
  | .hbm, ⟨31, _⟩ => ⟨S64x256x512, .f32⟩
  | .hbm, ⟨32, _⟩ => ⟨S1024x1, .i32⟩
  | .hbm, ⟨33, _⟩ => ⟨S1024x256x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Flat.lean ====
/-
# The kernel's body as loops

The printed body unrolls every loop over the mesh and over the chunks. Here the same program is written with those
loops (`each`), over named values (`yAll`, `shAll`, `scAll`), and shown to be the printed one by unfolding.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.SL.Sem

variable {F : FTy → Type} [FloatOps F]

/-! ## Loops -/

/-- `f k` for every `k` of the list in order, and then `rest`. -/
def each {E : Type → Type} {ι α : Type} (ks : List ι) (f : ι → Prog E PUnit) (rest : Prog E α) : Prog E α :=
  match ks with
  | [] => rest
  | k :: ks => (f k).bind fun _ => each ks f rest

/-- The fifteen other devices, by how far up the mesh they are, less one. -/
abbrev L15 : List (Fin 15) := [0, 1, 2, 3, 4, 5, 6, 7, 8, 9, 10, 11, 12, 13, 14]
/-- The sixteen slots. -/
abbrev L16 : List (Fin 16) := [0, 1, 2, 3, 4, 5, 6, 7, 8, 9, 10, 11, 12, 13, 14, 15]

/-! ## The buffers and semaphores -/

abbrev xM : Memref sig .tc .vmem S1024x256 .bf16 := Memref.whole cc0_stg0_0
abbrev rM : Memref sig .tc .vmem S256x64 .bf16 := Memref.whole cc0_stg1_0
abbrev tM : Memref sig .tc .vmem S1024x1 .i32 := Memref.whole cc0_stg2_0
abbrev eM : Memref sig .tc .vmem S4x256x512 .bf16 := Memref.whole cc0_stg3_0
abbrev sM : Memref sig .tc .vmem S256x512 .bf16 := Memref.whole cc0_stg4_0
abbrev oM : Memref sig .tc .vmem S1024x512 .bf16 := Memref.whole cc0_stg5_0
abbrev pM : Memref sig .tc .vmem S16x16x512 .bf16 := Memref.whole cc0_scratch0
abbrev bM : Memref sig .tc .vmem S16x16x512 .bf16 := Memref.whole cc0_scratch1

theorem inbSem : ∀ k : Fin 16, ∀ a, (![k.val] : Fin 1 → ℕ) a + S1.size a ≤ S16.size a := by decide
theorem inbSlot : ∀ k : Fin 16, ∀ a, (![k.val, 0, 0] : Fin 3 → ℕ) a + S1x16x512.size a ≤ S16x16x512.size a := by decide
theorem inbChunk : ∀ k : Fin 16, ∀ a, (![64 * k.val, 0] : Fin 2 → ℕ) a + S64x1.size a ≤ S1024x1.size a := by decide
theorem inbExp : ∀ k : Fin 4, ∀ a, (![k.val, 0, 0] : Fin 3 → ℕ) a + S1x256x512.size a ≤ S4x256x512.size a := by decide

/-- Semaphore `k` of an array of sixteen. -/
abbrev semAt (A : DmaSems sig S16) (k : Fin 16) : DmaSems sig S_ :=
  (A.slice (Rect.unit (s := S16) ![k.val] S1.size (inbSem k))).squeeze S_ squeezes_S1_S_

/-- The runtime's barrier semaphore. -/
abbrev barS : Sem sig := (SemArray.scalar (sig.barrier 0 rfl) : Sems sig S_).sem

/-- Slot `k` of a buffer of sixteen slots. -/
abbrev slotRect (k : Fin 16) : Rect S16x16x512 := Rect.unit (s := S16x16x512) ![k.val, 0, 0] S1x16x512.size (inbSlot k)
theorem wordsSlot : ∀ k : Fin 16, (slotRect k).WholeWords (EltTy.packing .bf16) := by decide +kernel
theorem packedSlot : ∀ k : Fin 16, (slotRect k).PackedRows (EltTy.packing .bf16) := by decide +kernel

/-- Slot `k` of the landing buffer, as transfers name it. -/
abbrev landM (k : Fin 16) : Memref sig .tc .vmem S16x512 .bf16 :=
  (bM.slice (slotRect k) (fun _ => rfl)).squeeze S16x512 squeezes_S1x16x512_S16x512
/-- The slot of the payload buffer that device `d`'s transfer `r` reads. -/
abbrev payM (d : Dev nD) (r : Fin 15) : Memref sig .tc .vmem S16x512 .bf16 :=
  (pM.slice (Rect.unit (s := S16x16x512) (k0_off1 d (BitVec.ofNat 32 (1 + r.val))) S1x16x512.size (k0_off1_inb d r)) (fun _ => rfl)).squeeze
    S16x512 squeezes_S1x16x512_S16x512
/-- Device `d`'s chunk of the result, as transfers name it. -/
abbrev chunkM (d : Dev nD) : Memref sig .tc .vmem S64x512 .bf16 :=
  oM.slice (Rect.unit (s := S1024x512) (k0_off6 d) S64x512.size (k0_off6_inb d)) (fun _ => rfl)

/-- The device the printed signal `r` names, the printed first-phase transfer `r`, the printed second-phase transfer. -/
def devA (d : Dev nD) : Fin 15 → Dev nD := ![⟨k0_dev1 d, k0_dev1_lt d⟩, ⟨k0_dev2 d, k0_dev2_lt d⟩, ⟨k0_dev3 d, k0_dev3_lt d⟩,
  ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩,
  ⟨k0_dev9 d, k0_dev9_lt d⟩, ⟨k0_dev10 d, k0_dev10_lt d⟩, ⟨k0_dev11 d, k0_dev11_lt d⟩, ⟨k0_dev12 d, k0_dev12_lt d⟩,
  ⟨k0_dev13 d, k0_dev13_lt d⟩, ⟨k0_dev14 d, k0_dev14_lt d⟩, ⟨k0_dev15 d, k0_dev15_lt d⟩]
def devB (d : Dev nD) : Fin 15 → Dev nD := ![⟨k0_dev16 d, k0_dev16_lt d⟩, ⟨k0_dev17 d, k0_dev17_lt d⟩, ⟨k0_dev18 d, k0_dev18_lt d⟩,
  ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩,
  ⟨k0_dev24 d, k0_dev24_lt d⟩, ⟨k0_dev25 d, k0_dev25_lt d⟩, ⟨k0_dev26 d, k0_dev26_lt d⟩, ⟨k0_dev27 d, k0_dev27_lt d⟩,
  ⟨k0_dev28 d, k0_dev28_lt d⟩, ⟨k0_dev29 d, k0_dev29_lt d⟩, ⟨k0_dev30 d, k0_dev30_lt d⟩]
def devC (d : Dev nD) : Fin 15 → Dev nD := ![⟨k0_dev31 d, k0_dev31_lt d⟩, ⟨k0_dev32 d, k0_dev32_lt d⟩, ⟨k0_dev33 d, k0_dev33_lt d⟩,
  ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩,
  ⟨k0_dev39 d, k0_dev39_lt d⟩, ⟨k0_dev40 d, k0_dev40_lt d⟩, ⟨k0_dev41 d, k0_dev41_lt d⟩, ⟨k0_dev42 d, k0_dev42_lt d⟩,
  ⟨k0_dev43 d, k0_dev43_lt d⟩, ⟨k0_dev44 d, k0_dev44_lt d⟩, ⟨k0_dev45 d, k0_dev45_lt d⟩]

/-! ## The values -/

/-- A device's place in the mesh, as the word the body computes. -/
def place (d : Dev nD) : BitVec 32 := Scalar.remsi (Scalar.divsi (Dev.word d) 1#32) 16#32

section Vals
variable (p : BitVec 32) (x : Vec F S1024x256 .bf16) (rw : Vec F S256x64 .bf16) (t : Vec F S1024x1 .i32) (x' : Vec F S1024x256 .bf16)
  (t' : Vec F S1024x1 .i32) (u : Fin 16 → Vec F S64x1 .i32)

/-- The tokens scaled by their gate, those of other devices' experts at zero. -/
def xg : FVec F S1024x256 .bf16 := k0_pay3 p (k0_pay1 x rw) (k0_pay2 x rw) t x'
abbrev v150 : IVec S16x64 32 := k0_pay4 (F := F) p t'
abbrev v160 : IVec S16x64 32 := k0_pay5 (F := F) p t'
abbrev v161 : IVec S16x64 32 := iota .tc S16x64 32 [0] iota_S16x64_d0_w32
abbrev v162 : IVec S16x64 32 := k0_pay6
abbrev v168 : IVec S16x64 32 := k0_pay7 (F := F) p t'
abbrev v170 : IVec S16x64 32 := k0_pay8 (F := F) p t'

local notation "G" => xg p x rw t x'
local notation "A" => v150 (F := F) p t'
local notation "B" => v160 (F := F) p t'
local notation "C" => v161
local notation "D" => v162
local notation "H" => v168 (F := F) p t'
local notation "I" => v170 (F := F) p t'

/-- The packed tokens of the sixteen chunks, a token per occupied slot. -/
def qAll : FVec F S256x256 .bf16 :=
  k0_pay62 G (k0_pay10 G H I) (k0_pay13 G A B C D) (k0_pay18 G (k0_pay15 A D) (k0_pay16 B C D) 1#32) (k0_pay21 G A B C D)
    (k0_pay24 G (k0_pay23 A B C D)) (k0_pay27 G A B C D) (k0_pay30 G A B C D) (k0_pay33 G A B C D) (k0_pay36 G A B C D) (k0_pay40 G A B C D)
    (k0_pay43 G A B C D) (k0_pay46 G A B C D) (k0_pay49 G A B C D) (k0_pay54 G C D (k0_pay51 B D) (k0_pay52 A)) (k0_pay57 G A B C D)
    (k0_pay59 A D) (k0_pay60 B C D)

/-- The packed tokens' experts, as floats. -/
def eAll : FVec F S256x1 .f32 :=
  k0_pay63 (k0_pay11 H I (u 0)) (k0_pay14 A B C D (u 1)) (k0_pay19 (k0_pay15 A D) (k0_pay16 B C D) 1#32 (u 2)) (k0_pay22 A B C D (u 3))
    (k0_pay25 (k0_pay23 A B C D) (u 4)) (k0_pay28 A B C D (u 5)) (k0_pay31 (k0_pay29 A B C D) (u 6)) (k0_pay34 A B C D (u 7))
    (k0_pay38 (k0_pay37 A B C D) (u 8)) (k0_pay41 A B C D (u 9)) (k0_pay44 A B C D (u 10)) (k0_pay47 A B C D (u 11)) (k0_pay50 A B C D (u 12))
    (k0_pay55 C D (k0_pay51 B D) (k0_pay52 A) (u 13)) (k0_pay58 A B C D (u 14)) (k0_pay59 A D) (k0_pay60 B C D) (u 15)

/-- The first expert's contribution and the mask of the second, as the body computes them. -/
def y0 (w0 : Vec F S1x256x512 .bf16) : FVec F S256x512 .f32 :=
  k0_pay64 p G (k0_pay10 G H I) (k0_pay11 H I (u 0)) (k0_pay13 G A B C D) (k0_pay14 A B C D (u 1))
    (k0_pay18 G (k0_pay15 A D) (k0_pay16 B C D) 1#32) (k0_pay19 (k0_pay15 A D) (k0_pay16 B C D) 1#32 (u 2)) (k0_pay21 G A B C D) (k0_pay22 A B C D (u 3))
    (k0_pay24 G (k0_pay23 A B C D)) (k0_pay25 (k0_pay23 A B C D) (u 4)) (k0_pay27 G A B C D) (k0_pay28 A B C D (u 5))
    (k0_pay30 G A B C D) (k0_pay31 (k0_pay29 A B C D) (u 6)) (k0_pay33 G A B C D) (k0_pay34 A B C D (u 7))
    (k0_pay36 G A B C D) (k0_pay38 (k0_pay37 A B C D) (u 8)) (k0_pay40 G A B C D) (k0_pay41 A B C D (u 9))
    (k0_pay43 G A B C D) (k0_pay44 A B C D (u 10)) (k0_pay46 G A B C D) (k0_pay47 A B C D (u 11)) (k0_pay49 G A B C D) (k0_pay50 A B C D (u 12))
    (k0_pay54 G C D (k0_pay51 B D) (k0_pay52 A)) (k0_pay55 C D (k0_pay51 B D) (k0_pay52 A) (u 13)) (k0_pay57 G A B C D) (k0_pay58 A B C D (u 14))
    (k0_pay59 A D) (k0_pay60 B C D) (u 15) w0
def m1 : FVec F S256x1 .f32 :=
  k0_pay65 p (k0_pay11 H I (u 0)) (k0_pay14 A B C D (u 1)) (k0_pay19 (k0_pay15 A D) (k0_pay16 B C D) 1#32 (u 2)) (k0_pay22 A B C D (u 3))
    (k0_pay25 (k0_pay23 A B C D) (u 4)) (k0_pay28 A B C D (u 5)) (k0_pay31 (k0_pay29 A B C D) (u 6)) (k0_pay34 A B C D (u 7))
    (k0_pay38 (k0_pay37 A B C D) (u 8)) (k0_pay41 A B C D (u 9)) (k0_pay44 A B C D (u 10)) (k0_pay47 A B C D (u 11)) (k0_pay50 A B C D (u 12))
    (k0_pay55 C D (k0_pay51 B D) (k0_pay52 A) (u 13)) (k0_pay58 A B C D (u 14)) (k0_pay59 A D) (k0_pay60 B C D) (u 15)

/-- The packed tokens through this device's four experts: what it sends, sixteen rows to a device. -/
def yAll (w : Fin 4 → Vec F S1x256x512 .bf16) : FVec F S256x512 .bf16 :=
  k0_pay69 (qAll p x rw t x' t')
    (k0_pay66 p (qAll p x rw t x' t') (eAll p t' u) (y0 p x rw t x' t' u (w 0)) (m1 p t' u) (w 1) (w 2))
    (k0_pay67 (w 3)) (k0_pay68 p (eAll p t' u))

end Vals

/-- Rows `16 k …` of the payload as slot `k`. -/
def slotVal (y : FVec F S256x512 .bf16) (k : Fin 16) : FVec F S1x16x512 .bf16 :=
  shapeCast S1x16x512 (extractStridedSlice S16x512 ![16 * k.val, 0] y (by revert k; decide)) shapeCasts_S16x512_S1x16x512

/-- The one-hot matrix by which a device's tokens pick their rows of the landing buffer. -/
def scAll (p : BitVec 32) (u : Vec F S64x1 .i32) : FVec F S64x256 .bf16 :=
  k0_pay98 (F := F)
    (k0_pay93 (F := F) p (iota .tc S64x64 32 [0] iota_S64x64_d0_w32) (iota .tc S64x64 32 [1] iota_S64x64_d1_w32) (k0_pay89 u) 4#32 (k0_pay90 u) (k0_pay91 u)
      (Scalar.extui (Scalar.cmpi .sgt 4#32 0#32)) (Scalar.cmpi .slt 4#32 0#32))
    (iota .tc S64x256 32 [1] iota_S64x256_d1_w32) k0_pay94
    (k0_pay95 p (k0_pay89 u) 4#32 (k0_pay90 u) (k0_pay91 u) (Scalar.extui (Scalar.cmpi .sgt 4#32 0#32)) (Scalar.cmpi .slt 4#32 0#32))
    16#32 k0_pay96 k0_pay97 (Scalar.extui (Scalar.cmpi .sgt 16#32 0#32)) (Scalar.extui (Scalar.cmpi .slt 16#32 0#32))

/-! ## The program -/

abbrev P (F : FTy → Type) [FloatOps F] : Type 1 := Prog (TpuEff nD τ sig (Elt F) Λ₀ .tc) PUnit

/-- The whole of a buffer, one slot of a buffer of slots, one chunk of the routing table, one expert's matrix. -/
abbrev xR : Rect S1024x256 := Rect.unit (s := S1024x256) ![0, 0] S1024x256.size inb_S1024x256_S1024x256_0_0
abbrev rR : Rect S256x64 := Rect.unit (s := S256x64) ![0, 0] S256x64.size inb_S256x64_S256x64_0_0
abbrev tR : Rect S1024x1 := Rect.unit (s := S1024x1) ![0, 0] S1024x1.size inb_S1024x1_S1024x1_0_0
abbrev sR : Rect S256x512 := Rect.unit (s := S256x512) ![0, 0] S256x512.size inb_S256x512_S256x512_0_0
abbrev bR : Rect S16x16x512 := Rect.unit (s := S16x16x512) ![0, 0, 0] S16x16x512.size inb_S16x16x512_S16x16x512_0_0_0
abbrev tcR (k : Fin 16) : Rect S1024x1 := Rect.unit (s := S1024x1) ![64 * k.val, 0] S64x1.size (inbChunk k)
abbrev eR (k : Fin 4) : Rect S4x256x512 := Rect.unit (s := S4x256x512) ![k.val, 0, 0] S1x256x512.size (inbExp k)
/-- The payload slot a device keeps, its own tokens, their routes, its chunk of the result. -/
abbrev ownR (d : Dev nD) : Rect S16x16x512 := Rect.unit (s := S16x16x512) (k0_off2 d) S1x16x512.size (k0_off2_inb d)
abbrev xcR (d : Dev nD) : Rect S1024x256 := Rect.unit (s := S1024x256) (k0_off3 d) S64x256.size (k0_off3_inb d)
abbrev uR (d : Dev nD) : Rect S1024x1 := Rect.unit (s := S1024x1) (k0_off4 d) S64x1.size (k0_off4_inb d)
abbrev ocR (d : Dev nD) : Rect S1024x512 := Rect.unit (s := S1024x512) (k0_off5 d) S64x512.size (k0_off5_inb d)

theorem landW (k : Fin 16) : (landM k).view.WordExact :=
  (((Memref.isWhole_whole cc0_scratch1).wordExact_slice rfl _ (wordsSlot k)).reshape _ _)
theorem payW (d : Dev nD) (r : Fin 15) : (payM d r).view.WordExact :=
  (((Memref.isWhole_whole cc0_scratch0).wordExact_slice rfl _ (k0_off1_wordsbf16 d r)).reshape _ _)
theorem chunkW (d : Dev nD) : (chunkM d).view.WordExact := (Memref.isWhole_whole cc0_stg5_0).wordExact_slice rfl _ (k0_off6_wordsbf16 d)

/-- The entry signals. -/
def signals (d : Dev nD) (rest : P F) : P F := each L15 (fun r => semSignalWord (devA d r) barS 1#32) rest

/-- Store the slots of the payload. -/
def stores (y : FVec F S256x512 .bf16) (rest : P F) : P F :=
  each L16 (fun k =>
    (Prog.lift (.load pM (slotRect k).toLoadRect (View.loadsAt_vmem h_S1x16x512))).bind fun (_ : Vec F S1x16x512 .bf16) =>
    Prog.lift (.store pM (slotRect k) (slotVal y k) Finset.univ
      (View.stores_vmem h_S1x16x512 ((Memref.isWhole_whole cc0_scratch0).storeExact_slice rfl _ (packedSlot k)) (fun _ => rfl)) (.inl rfl))) rest

/-- The transfers of the first phase, and of the second. -/
def sendsB (d : Dev nD) (rest : P F) : P F :=
  each L15 (fun r => Prog.lift (.enqueueDma (payM d r) (.remote (Dev.tc (devB d r)) (landM r.succ) (.dma (semAt cc0_scratch2 r.succ).sem))
    (.dma (semAt cc0_scratch3 r.succ).sem) (payW d r) (landW r.succ) ⟨⟨rfl, Or.inl rfl⟩, trivial⟩)) rest
def sendsC (d : Dev nD) (rest : P F) : P F :=
  each L15 (fun r => Prog.lift (.enqueueDma (chunkM d) (.remote (Dev.tc (devC d r)) (chunkM d) (.dma (semAt cc0_scratch4 r.succ).sem))
    (.dma (semAt cc0_scratch5 r.succ).sem) (chunkW d) (chunkW d) ⟨⟨rfl, Or.inl rfl⟩, trivial⟩)) rest

/-- The four rows of waits: for what others send in the first phase, for one's own transfers of it, and the same of the
    second. -/
def waitsB (rest : P F) : P F :=
  each L15 (fun r => Prog.lift (.waitDma2 (semAt cc0_scratch3 r.succ).sem (landM r.succ) (landM r.succ) (landW r.succ) (landW r.succ))) rest
def waitsBs (d : Dev nD) (rest : P F) : P F :=
  each L15 (fun r => Prog.lift (.waitDma2 (semAt cc0_scratch2 r.succ).sem (landM r.succ) (payM d r) (landW r.succ) (payW d r))) rest
def waitsC (d : Dev nD) (rest : P F) : P F :=
  each L15 (fun r => Prog.lift (.waitDma2 (semAt cc0_scratch5 r.succ).sem (chunkM d) (chunkM d) (chunkW d) (chunkW d))) rest
def waitsCs (d : Dev nD) (rest : P F) : P F :=
  each L15 (fun r => Prog.lift (.waitDma2 (semAt cc0_scratch4 r.succ).sem (chunkM d) (chunkM d) (chunkW d) (chunkW d))) rest

/-- The body past the handshake and the payload's values. -/
def tail (d : Dev nD) (y : FVec F S256x512 .bf16) : P F :=
  stores y <| sendsB d <| do
    let v : Vec F S1x16x512 .bf16 ← Prog.lift (.load pM (ownR d).toLoadRect (View.loadsAt_vmem h_S1x16x512))
    let _ : Vec F S1x16x512 .bf16 ← Prog.lift (.load bM (slotRect 0).toLoadRect (View.loadsAt_vmem h_S1x16x512))
    Prog.lift (.store bM (slotRect 0) (k0_pay87 v) Finset.univ
      (View.stores_vmem h_S1x16x512 ((Memref.isWhole_whole cc0_scratch1).storeExact_slice rfl _ (packedSlot 0)) (fun _ => rfl)) (.inl rfl))
    let xc : Vec F S64x256 .bf16 ← Prog.lift (.load xM (xcR d).toLoadRect (View.loadsAt_vmem h_S64x256))
    let sw : Vec F S256x512 .bf16 ← Prog.lift (.load sM sR.toLoadRect (View.loadsAt_vmem h_S256x512))
    let uc : Vec F S64x1 .i32 ← Prog.lift (.load tM (uR d).toLoadRect (View.loadsAt_vmem h_S64x1))
    waitsB <| do
      let rs : Vec F S16x16x512 .bf16 ← Prog.lift (.load bM bR.toLoadRect (View.loadsAt_vmem h_S16x16x512))
      let _ : Vec F S64x512 .bf16 ← Prog.lift (.load oM (ocR d).toLoadRect (View.loadsAt_vmem h_S64x512))
      Prog.lift (.store oM (ocR d) (k0_pay99 (k0_pay88 xc sw) (scAll (place d) uc) rs) Finset.univ
        (View.stores_vmem h_S64x512 ((Memref.isWhole_whole cc0_stg5_0).storeExact_slice rfl _ (k0_off5_packedbf16 d)) (fun _ => rfl)) (.inl rfl))
      sendsC d <| waitsBs d <| waitsC d <| waitsCs d <| pure ⟨⟩

/-- The whole body. -/
def flat : P F := do
  let d : Dev nD ← Prog.lift .deviceId
  signals d <| do
    semWaitWord barS 15#32
    let x : Vec F S1024x256 .bf16 ← Prog.lift (.load xM xR.toLoadRect (View.loadsAt_vmem h_S1024x256))
    let rw : Vec F S256x64 .bf16 ← Prog.lift (.load rM rR.toLoadRect (View.loadsAt_vmem h_S256x64))
    let t : Vec F S1024x1 .i32 ← Prog.lift (.load tM tR.toLoadRect (View.loadsAt_vmem h_S1024x1))
    let x' : Vec F S1024x256 .bf16 ← Prog.lift (.load xM xR.toLoadRect (View.loadsAt_vmem h_S1024x256))
    let t' : Vec F S1024x1 .i32 ← Prog.lift (.load tM tR.toLoadRect (View.loadsAt_vmem h_S1024x1))
    let u0 : Vec F S64x1 .i32 ← Prog.lift (.load tM (tcR 0).toLoadRect (View.loadsAt_vmem h_S64x1))
    let u1 : Vec F S64x1 .i32 ← Prog.lift (.load tM (tcR 1).toLoadRect (View.loadsAt_vmem h_S64x1))
    let u2 : Vec F S64x1 .i32 ← Prog.lift (.load tM (tcR 2).toLoadRect (View.loadsAt_vmem h_S64x1))
    let u3 : Vec F S64x1 .i32 ← Prog.lift (.load tM (tcR 3).toLoadRect (View.loadsAt_vmem h_S64x1))
    let u4 : Vec F S64x1 .i32 ← Prog.lift (.load tM (tcR 4).toLoadRect (View.loadsAt_vmem h_S64x1))
    let u5 : Vec F S64x1 .i32 ← Prog.lift (.load tM (tcR 5).toLoadRect (View.loadsAt_vmem h_S64x1))
    let u6 : Vec F S64x1 .i32 ← Prog.lift (.load tM (tcR 6).toLoadRect (View.loadsAt_vmem h_S64x1))
    let u7 : Vec F S64x1 .i32 ← Prog.lift (.load tM (tcR 7).toLoadRect (View.loadsAt_vmem h_S64x1))
    let u8 : Vec F S64x1 .i32 ← Prog.lift (.load tM (tcR 8).toLoadRect (View.loadsAt_vmem h_S64x1))
    let u9 : Vec F S64x1 .i32 ← Prog.lift (.load tM (tcR 9).toLoadRect (View.loadsAt_vmem h_S64x1))
    let u10 : Vec F S64x1 .i32 ← Prog.lift (.load tM (tcR 10).toLoadRect (View.loadsAt_vmem h_S64x1))
    let u11 : Vec F S64x1 .i32 ← Prog.lift (.load tM (tcR 11).toLoadRect (View.loadsAt_vmem h_S64x1))
    let u12 : Vec F S64x1 .i32 ← Prog.lift (.load tM (tcR 12).toLoadRect (View.loadsAt_vmem h_S64x1))
    let u13 : Vec F S64x1 .i32 ← Prog.lift (.load tM (tcR 13).toLoadRect (View.loadsAt_vmem h_S64x1))
    let u14 : Vec F S64x1 .i32 ← Prog.lift (.load tM (tcR 14).toLoadRect (View.loadsAt_vmem h_S64x1))
    let u15 : Vec F S64x1 .i32 ← Prog.lift (.load tM (tcR 15).toLoadRect (View.loadsAt_vmem h_S64x1))
    let w0 : Vec F S1x256x512 .bf16 ← Prog.lift (.load eM (eR 0).toLoadRect (View.loadsAt_vmem h_S1x256x512))
    let w1 : Vec F S1x256x512 .bf16 ← Prog.lift (.load eM (eR 1).toLoadRect (View.loadsAt_vmem h_S1x256x512))
    let w2 : Vec F S1x256x512 .bf16 ← Prog.lift (.load eM (eR 2).toLoadRect (View.loadsAt_vmem h_S1x256x512))
    let w3 : Vec F S1x256x512 .bf16 ← Prog.lift (.load eM (eR 3).toLoadRect (View.loadsAt_vmem h_S1x256x512))
    tail d (yAll (place d) x rw t x' t' ![u0, u1, u2, u3, u4, u5, u6, u7, u8, u9, u10, u11, u12, u13, u14, u15] ![w0, w1, w2, w3])

set_option maxRecDepth 100000 in
/-- The printed body at the buffers it is launched on. -/
theorem body_eq : cc0_body (F := F) xM (Memref.isWhole_whole _) rM (Memref.isWhole_whole _) tM (Memref.isWhole_whole _) eM (Memref.isWhole_whole _)
    sM (Memref.isWhole_whole _) oM (Memref.isWhole_whole _) pM (Memref.isWhole_whole _) bM (Memref.isWhole_whole _)
    cc0_scratch2 cc0_scratch3 cc0_scratch4 cc0_scratch5 = flat := rfl

end Cert.Moe

end
-- ==== Proof.Cells.lean ====
/-
# The mesh, the semaphore cells and the schedule of what they hand over

Per device: its barrier cell takes a unit from each of the fifteen others; what device `up p s` pays onto device `p`'s
barrier is the room `p` will copy into, namely slot `s + 1` of that device's landing buffer and chunk `p` of its result.
Cell `k` of the four arrays of transfer semaphores takes one credit: on the two receiving arrays from device `c - k`,
handing over a filled slot, or a filled chunk; on the two sending arrays from the transfer's own end, handing back what it
read. Cell 0 of each is never used.
-/
module

public import proofs.«01_k».proof.Proof.Flat
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.SparseCore.Stream
public import Idealize.ShloMosaic.Lib.ValueIdxCore
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The mesh -/

/-- The device `r + 1` up from `c`. -/
def up (c : Dev nD) (r : Fin 15) : Dev nD := (c + r.succ : Fin 16)

/-- The device `k` down from `c`. -/
def dn (c : Dev nD) (k : Fin 16) : Dev nD := (c - k : Fin 16)

theorem dn_up (c : Dev nD) (r : Fin 15) : dn (up c r) r.succ = c := by revert c r; decide +kernel
theorem dn_zero (c : Dev nD) : dn c 0 = c := by revert c; decide +kernel
theorem up_rev (c : Dev nD) (r : Fin 15) : up (up c r) r.rev = c := by revert c r; decide +kernel
theorem up_ne (c : Dev nD) (r : Fin 15) : up c r ≠ c := by revert c r; decide +kernel
theorem devA_eq (c : Dev nD) (r : Fin 15) : devA c r = up c r := by revert c r; decide +kernel
theorem devB_eq (c : Dev nD) (r : Fin 15) : devB c r = up c r := by revert c r; decide +kernel
theorem devC_eq (c : Dev nD) (r : Fin 15) : devC c r = up c r := by revert c r; decide +kernel

/-! ## The buffers by slots and by chunks -/

theorem inbOut : ∀ k : Fin 16, ∀ a, (![64 * k.val, 0] : Fin 2 → ℕ) a + S64x512.size a ≤ S1024x512.size a := by decide
/-- Chunk `k` of the result. -/
abbrev chunkRect (k : Fin 16) : Rect S1024x512 := Rect.unit (s := S1024x512) ![64 * k.val, 0] S64x512.size (inbOut k)

/-- Slot `k` of the payload buffer, as a transfer reads it. -/
abbrev paySlot (k : Fin 16) : Memref sig .tc .vmem S16x512 .bf16 :=
  (pM.slice (slotRect k) (fun _ => rfl)).squeeze S16x512 squeezes_S1x16x512_S16x512
/-- Chunk `k` of the result, as a transfer reads and writes it. -/
abbrev outChunk (k : Fin 16) : Memref sig .tc .vmem S64x512 .bf16 := oM.slice (chunkRect k) (fun _ => rfl)

theorem off1_eq (c : Dev nD) (r : Fin 15) : k0_off1 c (BitVec.ofNat 32 (1 + r.val)) = ![(up c r).val, 0, 0] := by revert c r; decide +kernel
theorem off2_eq (c : Dev nD) : k0_off2 c = ![c.val, 0, 0] := by revert c; decide +kernel
theorem off3_eq (c : Dev nD) : k0_off3 c = ![64 * c.val, 0] := by revert c; decide +kernel
theorem off4_eq (c : Dev nD) : k0_off4 c = ![64 * c.val, 0] := by revert c; decide +kernel
theorem off5_eq (c : Dev nD) : k0_off5 c = ![64 * c.val, 0] := by revert c; decide +kernel
theorem off6_eq (c : Dev nD) : k0_off6 c = ![64 * c.val, 0] := by revert c; decide +kernel

/-- A box given by its corner depends on the corner alone. -/
theorem unit_congr {s : Shape} {off off' size : Fin s.rank → ℕ} (h : off = off') {i : ∀ a, off a + size a ≤ s.size a} :
    Rect.unit (s := s) off size i = Rect.unit (s := s) off' size (h ▸ i) := by subst h; rfl

theorem payM_eq (c : Dev nD) (r : Fin 15) : payM c r = paySlot (up c r) := by
  unfold payM paySlot slotRect
  have : ∀ (o o' : Fin 3 → ℕ) (h : o = o') (i : ∀ a, o a + S1x16x512.size a ≤ S16x16x512.size a) (i' : ∀ a, o' a + S1x16x512.size a ≤ S16x16x512.size a),
      (pM.slice (Rect.unit (s := S16x16x512) o S1x16x512.size i) (fun _ => rfl)).squeeze S16x512 squeezes_S1x16x512_S16x512
        = (pM.slice (Rect.unit (s := S16x16x512) o' S1x16x512.size i') (fun _ => rfl)).squeeze S16x512 squeezes_S1x16x512_S16x512 := by
    rintro o _ rfl _ _; rfl
  exact this _ _ (off1_eq c r) _ _
theorem chunkM_eq (c : Dev nD) : chunkM c = outChunk c := by
  have : ∀ (o o' : Fin 2 → ℕ) (h : o = o') (i : ∀ a, o a + S64x512.size a ≤ S1024x512.size a) (i' : ∀ a, o' a + S64x512.size a ≤ S1024x512.size a),
      oM.slice (Rect.unit (s := S1024x512) o S64x512.size i) (fun _ => rfl)
        = oM.slice (Rect.unit (s := S1024x512) o' S64x512.size i') (fun _ => rfl) := by
    rintro o _ rfl _ _; rfl
  exact this _ _ (off6_eq c) _ _

/-- A box's index in the buffer, coordinate by coordinate. -/
theorem slot_emb (k : Fin 16) (j : S1x16x512.Idx) : (slotRect k).emb j = ix3 k (j 1) (j 2) := by
  funext a; refine Fin.ext ?_
  have h0 : (j 0).val = 0 := by have := (j 0).isLt; simp only [S1x16x512] at this; exact Nat.lt_one_iff.mp this
  fin_cases a
  · show k.val + 1 * (j 0).val = k.val; omega
  · show 0 + 1 * (j 1).val = (j 1).val; omega
  · show 0 + 1 * (j 2).val = (j 2).val; omega
theorem mem_slot {k : Fin 16} {i : S16x16x512.Idx} : i ∈ (slotRect k).set ↔ i 0 = k := by
  rw [Rect.mem_set_unit]
  constructor
  · intro h
    obtain ⟨h1, h2⟩ := h 0
    refine Fin.ext ?_
    have h1 : k.val ≤ (i 0).val := h1
    have h2 : (i 0).val < k.val + 1 := h2
    omega
  · rintro rfl a
    fin_cases a
    · exact ⟨le_rfl, Nat.lt_succ_self _⟩
    · exact ⟨Nat.zero_le _, (i 1).isLt.trans_le (Nat.zero_add _).ge⟩
    · exact ⟨Nat.zero_le _, (i 2).isLt.trans_le (Nat.zero_add _).ge⟩
theorem mem_chunk {k : Fin 16} {i : S1024x512.Idx} : i ∈ (chunkRect k).set ↔ (i 0).val / 64 = k.val := by
  rw [Rect.mem_set_unit]
  constructor
  · intro h
    obtain ⟨h1, h2⟩ := h 0
    have h1 : 64 * k.val ≤ (i 0).val := h1
    have h2 : (i 0).val < 64 * k.val + 64 := h2
    omega
  · intro h a
    fin_cases a
    · exact ⟨show 64 * k.val ≤ (i 0).val by omega, show (i 0).val < 64 * k.val + 64 by omega⟩
    · exact ⟨Nat.zero_le _, (i 1).isLt.trans_le (Nat.zero_add _).ge⟩

theorem slot_disj (k k' : Fin 16) (h : k ≠ k') : Disjoint (slotRect k).set (slotRect k').set :=
  Finset.disjoint_left.mpr fun i hi hi' => h ((mem_slot.mp hi).symm.trans (mem_slot.mp hi'))
theorem slot_cover : (Finset.univ.biUnion fun k : Fin 16 => (slotRect k).set) = Finset.univ :=
  Finset.eq_univ_iff_forall.mpr fun i => Finset.mem_biUnion.mpr ⟨i 0, Finset.mem_univ _, mem_slot.mpr rfl⟩
theorem chunk_disj (k k' : Fin 16) (h : k ≠ k') : Disjoint (chunkRect k).set (chunkRect k').set :=
  Finset.disjoint_left.mpr fun i hi hi' => h (Fin.ext ((mem_chunk.mp hi).symm.trans (mem_chunk.mp hi')))
theorem chunk_cover : (Finset.univ.biUnion fun k : Fin 16 => (chunkRect k).set) = Finset.univ :=
  Finset.eq_univ_iff_forall.mpr fun i => Finset.mem_biUnion.mpr
    ⟨⟨(i 0).val / 64, by have : (i 0).val < 1024 := (i 0).isLt; omega⟩, Finset.mem_univ _, mem_chunk.mpr rfl⟩

theorem set_land (k : Fin 16) : (landM k).view.set = (slotRect k).set :=
  (View.set_reshape ..).trans (View.set_slice_whole _ _)
theorem set_pay (k : Fin 16) : (paySlot k).view.set = (slotRect k).set :=
  (View.set_reshape ..).trans (View.set_slice_whole _ _)
theorem set_out (k : Fin 16) : (outChunk k).view.set = (chunkRect k).set := View.set_slice_whole _ _

/-! ## The resource algebra -/

/-- The names of the duties of a cell. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kinds of cell a device has: its barrier, and cell `k` of array `a` (first-phase sends, first-phase receives,
    second-phase sends, second-phase receives). -/
abbrev Kd : Type := Option (Fin 4 × Fin 16)

def arrS : Fin 4 → DmaSems sig S16 := ![cc0_scratch2, cc0_scratch3, cc0_scratch4, cc0_scratch5]
def csem : Kd → SemLoc sig
  | none => .reg barS
  | some (a, k) => .dma (semAt (arrS a) k).sem
abbrev cell (c : Dev nD) (κ : Kd) : GSem nD τ sig := ((c : Thread nD τ), csem κ)

theorem csem_injective : Function.Injective csem := by
  unfold Function.Injective; decide +kernel

/-- The kind of a semaphore, if it is one of these. -/
def kindOf (s : SemLoc sig) : Option Kd := Function.partialInv csem s
theorem kindOf_csem (κ : Kd) : kindOf (csem κ) = some κ := Function.partialInv_left csem_injective κ

/-- The credit of a slot, and of a chunk. -/
def NB : ℕ := (landM 0).view.dmaCredit
def NC : ℕ := (outChunk 0).view.dmaCredit
theorem NB_pos : 0 < NB := View.dmaCredit_pos _ (by decide)
theorem NC_pos : 0 < NC := View.dmaCredit_pos _ (by decide)
def amt (a : Fin 4) : ℕ := if a.val < 2 then NB else NC
theorem amt_pos (a : Fin 4) : 0 < amt a := by unfold amt; split; exacts [NB_pos, NC_pos]

/-! ## What is handed over -/

-- The payload buffer of each device, and the result, when they are filled.
variable (pb : Dev nD → (cc0_scratch0 : Ref sig .tc).ty.Contents (Elt F)) (ob : (cc0_stg5_0 : Ref sig .tc).ty.Contents (Elt F))

/-- The landing buffer of device `c` when it is filled: slot `k` is slot `c` of what device `c - k` made. -/
def rsOf (c : Dev nD) : (cc0_scratch1 : Ref sig .tc).ty.Contents (Elt F) :=
  fun i : S16x16x512.Idx => pb (dn c (i 0)) (ix3 (n0 := 16) (n1 := 16) (n2 := 512) c (i 1) (i 2))

/-- Slot `k` of device `c`'s landing buffer at given contents; the same of its payload buffer; chunk `k` of its result,
    at a share. -/
def slotB (c : Dev nD) (k : Fin 16) (f : (cc0_scratch1 : Ref sig .tc).ty.Contents (Elt F)) : sProp 𝕄 :=
  (c : Thread nD τ).loc cc0_scratch1 ↦[(slotRect k).set]{fullShare} f
def slotP (c : Dev nD) (k : Fin 16) (f : (cc0_scratch0 : Ref sig .tc).ty.Contents (Elt F)) : sProp 𝕄 :=
  (c : Thread nD τ).loc cc0_scratch0 ↦[(slotRect k).set]{fullShare} f
def chunkO (c : Dev nD) (k : Fin 16) (q : PosShare TreeShare) (f : (cc0_stg5_0 : Ref sig .tc).ty.Contents (Elt F)) : sProp 𝕄 :=
  (c : Thread nD τ).loc cc0_stg5_0 ↦[(chunkRect k).set]{q} f

instance slotB_storable (c : Dev nD) (k f) : BI.Storable (upEmb : UEmb _ 𝕄) (slotB (F := F) c k f) := by unfold slotB; infer_instance
instance slotP_storable (c : Dev nD) (k f) : BI.Storable (upEmb : UEmb _ 𝕄) (slotP (F := F) c k f) := by unfold slotP; infer_instance
instance chunkO_storable (c : Dev nD) (k q f) : BI.Storable (upEmb : UEmb _ 𝕄) (chunkO (F := F) c k q f) := by unfold chunkO; infer_instance

/-- What device `up p s`'s entry signal hands device `p`: the room for `p`'s two copies to it. -/
def barPay (p : Dev nD) (s : Fin 15) : sProp 𝕄 :=
  iprop((∃ f, slotB (up p s) s.succ f) ∗ ∃ f, chunkO (up p s) p fullShare f)

/-- The share of its own chunk that a device lends to transfer `r`. -/
def lent (r : Fin 15) : PosShare TreeShare := piece fullShare 14 r

/-- What a transfer's credit hands over at cell `r + 1` of array `a` of device `c`. -/
def xferPay (c : Dev nD) (a : Fin 4) (k : Fin 16) : sProp 𝕄 :=
  Fin.cases iprop(emp) (fun r => match a with
    | 0 => slotP c (up c r) (pb c)
    | 1 => slotB c r.succ (rsOf pb c)
    | 2 => chunkO c c (lent r) ob
    | 3 => chunkO c (dn c r.succ) fullShare ob) k

instance xferPay_storable (c : Dev nD) (a k) : BI.Storable (upEmb : UEmb _ 𝕄) (xferPay (F := F) pb ob c a k) := by
  refine Fin.cases ?_ (fun r => ?_) k
  · show BI.Storable upEmb iprop(emp); infer_instance
  · show BI.Storable upEmb (match a with
      | 0 => slotP c (up c r) (pb c)
      | 1 => slotB c r.succ (rsOf pb c)
      | 2 => chunkO c c (lent r) ob
      | 3 => chunkO c (dn c r.succ) fullShare ob)
    split <;> infer_instance

/-- The duties of a kind, the amount of a duty, what it hands over. -/
def dutiesK : Option Kd → Finset (Fin 15)
  | none => ∅
  | some none => Finset.univ
  | some (some (_, k)) => if k = 0 then ∅ else {0}
def amountK : Option Kd → ℕ
  | some (some (a, _)) => amt a
  | _ => 1
def payK (c : Dev nD) : Option Kd → Fin 15 → sProp 𝕄
  | none, _ => iprop(emp)
  | some none, s => barPay c s
  | some (some (a, k)), _ => xferPay pb ob c a k

instance payK_storable (c : Dev nD) (κ s) : BI.Storable (upEmb : UEmb _ 𝕄) (payK (F := F) pb ob c κ s) := by
  unfold payK; split
  · infer_instance
  · unfold barPay; infer_instance
  · infer_instance

/-- One round on every cell. -/
def sched : Rounds.Schedule (GSem nD τ sig) (Fin 15) 𝕄 where
  duties g r := if r = 0 ∧ g.1.2 = .tc then dutiesK (kindOf g.2) else ∅
  unitless _ := False
  amount g _ _ := amountK (kindOf g.2)
  payload g _ d := payK pb ob g.1.1 (kindOf g.2) d
  amount_pos g _ _ _ := by
    unfold amountK; split
    · exact amt_pos _
    · exact Nat.one_pos

instance sched_payload_storable (g : GSem nD τ sig) (r : ℕ) (d : Fin 15) : BI.Storable (upEmb : UEmb _ 𝕄) ((sched (F := F) pb ob).payload g r d) := by
  show BI.Storable upEmb (payK pb ob g.1.1 (kindOf g.2) d); infer_instance

theorem sched_duties (c : Dev nD) (κ : Kd) : (sched (F := F) pb ob).duties (cell c κ) 0 = dutiesK (some κ) := by
  rw [← kindOf_csem κ]
  exact if_pos (c := 0 = 0 ∧ (cell c κ).1.2 = .tc) (t := dutiesK (kindOf (csem κ))) (e := ∅) ⟨rfl, rfl⟩
theorem duties_later (g : GSem nD τ sig) : ∀ r, 1 ≤ r → (sched (F := F) pb ob).duties g r = ∅ :=
  fun r hr => if_neg fun h => by omega
theorem sched_amount (c : Dev nD) (κ : Kd) (d : Fin 15) : (sched (F := F) pb ob).amount (cell c κ) 0 d = amountK (some κ) := by
  show amountK (kindOf (csem κ)) = _; rw [kindOf_csem]
theorem sched_payload (c : Dev nD) (κ : Kd) (d : Fin 15) : (sched (F := F) pb ob).payload (cell c κ) 0 d = payK pb ob c (some κ) d := by
  show payK pb ob c (kindOf (csem κ)) d = _; rw [kindOf_csem]

theorem duties_bar (c : Dev nD) : (sched (F := F) pb ob).duties (cell c none) 0 = Finset.univ := sched_duties pb ob c none
theorem duties_xfer (c : Dev nD) (a : Fin 4) (r : Fin 15) : (sched (F := F) pb ob).duties (cell c (some (a, r.succ))) 0 = {0} := by
  rw [sched_duties]; unfold dutiesK; exact if_neg (Fin.succ_ne_zero r)
theorem duties_idle (c : Dev nD) (a : Fin 4) : ∀ n, 0 ≤ n → (sched (F := F) pb ob).duties (cell c (some (a, 0))) n = ∅ := by
  rintro (_ | n) _
  · rw [sched_duties]; unfold dutiesK; exact if_pos rfl
  · exact duties_later pb ob _ _ (by omega)
theorem expect_bar (c : Dev nD) : (sched (F := F) pb ob).expect (cell c none) 0 = 15 := by
  unfold Schedule.expect Schedule.amountOf
  rw [duties_bar, Finset.sum_congr rfl fun d _ => sched_amount pb ob c none d]; rfl
theorem expect_xfer (c : Dev nD) (a : Fin 4) (r : Fin 15) : (sched (F := F) pb ob).expect (cell c (some (a, r.succ))) 0 = amt a := by
  unfold Schedule.expect Schedule.amountOf
  rw [duties_xfer, Finset.sum_singleton, sched_amount]; rfl

theorem rest_bar (c : Dev nD) : bigSep ((sched (F := F) pb ob).duties (cell c none) 0 \ ∅) (fun d => (sched (F := F) pb ob).payload (cell c none) 0 d)
    = bigSepL L15 (fun s => barPay (F := F) c s) := by
  rw [Finset.sdiff_empty, duties_bar, bigSep_congr fun d _ => sched_payload pb ob c none d]
  exact bigSep_univ_eq_bigSepL L15 (by decide) (by decide) _
theorem rest_xfer (c : Dev nD) (a : Fin 4) (r : Fin 15) : bigSep ((sched (F := F) pb ob).duties (cell c (some (a, r.succ))) 0 \ ∅)
      (fun d => (sched (F := F) pb ob).payload (cell c (some (a, r.succ))) 0 d)
    = xferPay pb ob c a r.succ := by
  rw [Finset.sdiff_empty, duties_xfer, bigSep_singleton, sched_payload]; rfl

/-! ## What each device owes at launch; the levels -/

/-- Units of the barriers, credits of the first phase, credits of the second, still owed for the devices of a list. -/
def oweA (c : Dev nD) (ks : List (Fin 15)) : CellTallies nD τ sig Unit := (ks.map fun r => tallyAt (cell (up c r) none) () 1).sum
def oweB (c : Dev nD) (ks : List (Fin 15)) : CellTallies nD τ sig Unit := (ks.map fun r => tallyAt (cell (up c r) (some (1, r.succ))) () NB).sum
def oweC (c : Dev nD) (ks : List (Fin 15)) : CellTallies nD τ sig Unit := (ks.map fun r => tallyAt (cell (up c r) (some (3, r.succ))) () NC).sum
def O₀ (c : Dev nD) : CellTallies nD τ sig Unit := oweA c L15 + (oweB c L15 + oweC c L15)

def L (g : GSem nD τ sig) : Finset Unit := if g.1.2 = .tc then {()} else ∅
def lvK : Option Kd → ℕ
  | some none => 1
  | some (some (1, _)) => 2
  | some (some (3, _)) => 3
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kd) : lv (cell c κ) () = lvK (some κ) := by unfold lv; rw [kindOf_csem]

theorem sum_pos {ks : List (Fin 15)} {f : Fin 15 → GSem nD τ sig} {n : ℕ} {g : GSem nD τ sig} {u : Unit}
    (h : 0 < (ks.map fun r => (tallyAt (f r) () n : CellTallies nD τ sig Unit)).sum g u) : ∃ r, g = f r := by
  induction ks with
  | nil => exact absurd h (Nat.lt_irrefl 0)
  | cons r ks ih =>
    rw [List.map_cons, List.sum_cons, Pi.add_apply, Finsupp.add_apply, tallyAt_apply] at h
    by_cases hg : g = f r ∧ u = ()
    · exact ⟨r, hg.1⟩
    · rw [if_neg hg, Nat.zero_add] at h; exact ih h

/-- Waiting on a cell of level `n` is sound while everything owed is at cells of higher level. -/
theorem mayWait_of (c : Dev nD) (s : SemLoc sig) (n : ℕ) (hs : lvK (kindOf s) ≤ n) (O : CellTallies nD τ sig Unit)
    (hO : ∀ g u, 0 < O g u → ∃ d κ, g = cell d κ ∧ n < lvK (some κ)) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨d, κ, rfl, -⟩ := hO g u hg; rw [L_tc]; exact Finset.mem_singleton_self _)
    (fun p hp => by rw [Finset.mem_singleton.mp hp]; exact hs)
    (fun g u hg => by obtain ⟨d, κ, rfl, h⟩ := hO g u hg; rw [lv_cell]; exact h)

theorem oweA_pos {c : Dev nD} {ks g u} (h : 0 < oweA c ks g u) : ∃ d κ, g = cell d κ ∧ 0 < lvK (some κ) := by
  obtain ⟨r, rfl⟩ := sum_pos h; exact ⟨_, _, rfl, by decide⟩
theorem oweB_pos {c : Dev nD} {ks g u} (h : 0 < oweB c ks g u) : ∃ d κ, g = cell d κ ∧ 1 < lvK (some κ) := by
  obtain ⟨r, rfl⟩ := sum_pos h; exact ⟨_, _, rfl, Nat.lt_succ_self 1⟩
theorem oweC_pos {c : Dev nD} {ks g u} (h : 0 < oweC c ks g u) : ∃ d κ, g = cell d κ ∧ 2 < lvK (some κ) := by
  obtain ⟨r, rfl⟩ := sum_pos h; exact ⟨_, _, rfl, Nat.lt_succ_self 2⟩
theorem oweBC_pos {c : Dev nD} {ks ks' g u} (h : 0 < (oweB c ks + oweC c ks') g u) : ∃ d κ, g = cell d κ ∧ 1 < lvK (some κ) := by
  rw [Pi.add_apply, Finsupp.add_apply] at h
  rcases Nat.eq_zero_or_pos (oweB c ks g u) with h' | h'
  · rw [h', Nat.zero_add] at h; obtain ⟨d, κ, h1, h2⟩ := oweC_pos h; exact ⟨d, κ, h1, by omega⟩
  · exact oweB_pos h'
theorem O₀_pos {c : Dev nD} {g u} (h : 0 < O₀ c g u) : ∃ d κ, g = cell d κ ∧ 0 < lvK (some κ) := by
  unfold O₀ at h
  rw [Pi.add_apply, Finsupp.add_apply] at h
  rcases Nat.eq_zero_or_pos (oweA c L15 g u) with h' | h'
  · rw [h', Nat.zero_add] at h; obtain ⟨d, κ, h1, h2⟩ := oweBC_pos h; exact ⟨d, κ, h1, by omega⟩
  · exact oweA_pos h'

end Cert.Moe

end
-- ==== Proof.Steps.lean ====
/-
# One turn of each loop of the body

Each loop of the body is run by one rule (`wp_each`) from a lemma about one turn of it: an entry signal, a store of a
slot, a transfer of the first or second phase, a wait on a transfer's semaphore.
-/
module

public import proofs.«01_k».proof.Proof.Cells

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

abbrev 𝒱₀ : Variants := Variants.none

/-- The weakest precondition of a program of device `c`. -/
abbrev WP (c : Dev nD) (p : P F) (Q : PUnit → sProp 𝕄) : sProp 𝕄 :=
  wp frame (wpE (defs₀ (F := F)) 𝒱₀ (c : Thread nD τ) none) Set.univ p Q

/-- A loop by an invariant over what is left of its list: each turn takes `A` of its index and gives `B`. -/
theorem wp_each {ι : Type} (c : Dev nD) (I : List ι → sProp 𝕄) (A B : ι → sProp 𝕄) (f : ι → P F)
    (step : ∀ k ks (cont : P F) (Q : PUnit → sProp 𝕄),
      iprop(I (k :: ks) ∗ A k ∗ ((I ks ∗ B k) -∗ WP c cont Q)) ⊢ WP c ((f k).bind fun _ => cont) Q)
    (ks : List ι) (rest : P F) (Q : PUnit → sProp 𝕄) :
    iprop(I ks ∗ bigSepL ks A ∗ ((I [] ∗ bigSepL ks B) -∗ WP c rest Q)) ⊢ WP c (each ks f rest) Q := by
  induction ks with
  | nil =>
    show _ ⊢ WP c rest Q
    iintro ⟨HI, -, Hk⟩
    iapply Hk
    isplitl [HI]; · iexact HI
    rw [bigSepL_nil]; iempintro
  | cons k ks ih =>
    rw [bigSepL_cons', bigSepL_cons']
    show _ ⊢ WP c ((f k).bind fun _ => each ks f rest) Q
    iintro ⟨HI, ⟨HA, HAs⟩, Hk⟩
    iapply (step k ks (each ks f rest) Q)
    isplitl [HI]; · iexact HI
    isplitl [HA]; · iexact HA
    iintro ⟨HI, HB⟩
    iapply ih
    isplitl [HI]; · iexact HI
    isplitl [HAs]; · iexact HAs
    iintro ⟨HI, HBs⟩
    iapply Hk
    isplitl [HI]; · iexact HI
    isplitl [HB]; · iexact HB
    iexact HBs

/-! ## What lands -/

variable (pb : Dev nD → (cc0_scratch0 : Ref sig .tc).ty.Contents (Elt F)) (ob : (cc0_stg5_0 : Ref sig .tc).ty.Contents (Elt F))

/-- Slot `up c r` of what `c` made, copied into slot `r + 1` of device `up c r`'s landing buffer, is what that buffer is to hold
    there. -/
theorem landed_on (c : Dev nD) (r : Fin 15) (fd : (cc0_scratch1 : Ref sig .tc).ty.Contents (Elt F)) :
    ∀ i ∈ (slotRect r.succ).set, (landM r.succ).view.write (Elt F) fd ((paySlot (up c r)).view.read (Elt F) (pb c)) Finset.univ i = rsOf pb (up c r) i := by
  intro i hi
  rw [← set_land] at hi
  obtain ⟨x, -, rfl⟩ := Finset.mem_map.mp hi
  rw [View.write_emb_of_mem _ _ (Finset.mem_univ x)]
  show pb c ((slotRect (up c r)).emb (Shape.reshapeEquiv _ x)) = rsOf pb (up c r) ((slotRect r.succ).emb (Shape.reshapeEquiv _ x))
  rw [slot_emb, slot_emb]
  show _ = pb (dn (up c r) r.succ) (ix3 (up c r) _ _)
  rw [dn_up]; rfl

/-- A chunk of the result copied onto the same chunk of another device's. -/
theorem chunk_on (k : Fin 16) (fd : (cc0_stg5_0 : Ref sig .tc).ty.Contents (Elt F)) :
    ∀ i ∈ (chunkRect k).set, (outChunk k).view.write (Elt F) fd ((outChunk k).view.read (Elt F) ob) Finset.univ i = ob i := by
  intro i hi
  rw [← set_out] at hi
  obtain ⟨x, -, rfl⟩ := Finset.mem_map.mp hi
  rw [View.write_emb_of_mem _ _ (Finset.mem_univ x)]; rfl

/-! ## The records every device shares -/

/-- Every cell's invariant, and that every cell has reached its round. -/
def records (K : Dev nD × Kd → ℕ) : sProp 𝕄 :=
  iprop((bigSep Finset.univ fun ck : Dev nD × Kd => cellInv ER (sched pb ob) (K ck) (cell ck.1 ck.2))
    ∗ bigSep Finset.univ fun ck : Dev nD × Kd => reached ER (cell ck.1 ck.2) 0)

instance records_persistent (K : Dev nD × Kd → ℕ) : BI.Persistent (records pb ob K) := by unfold records; infer_instance

theorem inv_at (K : Dev nD × Kd → ℕ) (d : Dev nD) (κ : Kd) : records pb ob K ⊢ cellInv ER (sched pb ob) (K (d, κ)) (cell d κ) := by
  unfold records
  exact sep_elim_left.trans (bigSep_elim (Finset.mem_univ ((d, κ) : Dev nD × Kd)))
theorem reached_at (K : Dev nD × Kd → ℕ) (d : Dev nD) (κ : Kd) : records pb ob K ⊢ reached ER (cell d κ) 0 := by
  unfold records
  exact sep_elim_right.trans (bigSep_elim (Finset.mem_univ ((d, κ) : Dev nD × Kd)))

variable (K : Dev nD × Kd → ℕ)

/-! ## What a turn pays of what is owed -/

theorem oweA_cons (c : Dev nD) (r : Fin 15) (ks : List (Fin 15)) (Z : CellTallies nD τ sig Unit) :
    oweA c (r :: ks) + Z = (oweA c ks + Z) + tallyAt (cell (up c r) none) () 1 := by
  unfold oweA; rw [List.map_cons, List.sum_cons, add_assoc, add_comm]
theorem oweB_cons (c : Dev nD) (r : Fin 15) (ks : List (Fin 15)) (Z : CellTallies nD τ sig Unit) :
    oweB c (r :: ks) + Z = (oweB c ks + Z) + tallyAt (cell (up c r) (some (1, r.succ))) () NB := by
  unfold oweB; rw [List.map_cons, List.sum_cons, add_assoc, add_comm]
theorem oweC_cons (c : Dev nD) (r : Fin 15) (ks : List (Fin 15)) :
    oweC c (r :: ks) = oweC c ks + tallyAt (cell (up c r) (some (3, r.succ))) () NC := by
  unfold oweC; rw [List.map_cons, List.sum_cons, add_comm]

/-! ## The turns -/

/-- What device `c`'s entry signal to `up c r` takes: the duty it pays, and the room it hands over. -/
def sigIn (c : Dev nD) (r : Fin 15) : sProp 𝕄 :=
  iprop(dutyTok ER (cell (up c r) none) 0 r.rev ∗ (∃ f, slotB c r.rev.succ f) ∗ ∃ f, chunkO c (up c r) fullShare f)

/-- While the devices of the list are still to be signalled. -/
def sigI (c : Dev nD) (ks : List (Fin 15)) : sProp 𝕄 :=
  iprop(records pb ob K ∗ ∃ W, owes (c : Thread nD τ) (oweA c ks + (oweB c L15 + oweC c L15)) W)

theorem step_signal (c : Dev nD) (r : Fin 15) (ks : List (Fin 15)) (cont : P F) (Q : PUnit → sProp 𝕄) :
    iprop(sigI pb ob K c (r :: ks) ∗ sigIn c r ∗ ((sigI pb ob K c ks ∗ emp) -∗ WP c cont Q))
      ⊢ WP c ((semSignalWord (devA c r) barS 1#32 : P F).bind fun _ => cont) Q := by
  unfold sigI sigIn
  rw [devA_eq]
  iintro ⟨⟨#HR, %W, HO⟩, ⟨HT, HS, HC⟩, Hk⟩
  ihave #HI := (inv_at pb ob K (up c r) none) $$ HR
  ihave #Hr := (reached_at pb ob K (up c r) none) $$ HR
  iapply (Rounds.wp_signal 𝒱₀ ER (sched pb ob) (c : Thread nD τ) none (dst := (up c r : Thread nD τ)) (κ := K (up c r, none))
      (d := r.rev) (by rw [show ((up c r : Thread nD τ), SemLoc.reg barS) = cell (up c r) none from rfl, duties_bar]; exact Finset.mem_univ _) ((sched_amount pb ob (up c r) none r.rev).trans (by decide)) () (oweA c ks + (oweB c L15 + oweC c L15))
      (oweA_cons c r ks _))
    $$ [HO HT HS HC]
  · isplitr; · iexact HI
    isplitl [HO]; · iexact HO
    isplitl [HT]; · iexact HT
    isplitl [HS HC]
    · rw [show ((up c r : Thread nD τ), SemLoc.reg barS) = cell (up c r) none from rfl, sched_payload, show payK pb ob (up c r) (some none) r.rev = barPay (up c r) r.rev from rfl]; unfold barPay; rw [up_rev]
      isplitl [HS]; · iexact HS
      iexact HC
    · iexact Hr
  iintro HO
  iapply Hk
  isplitl
  · isplitr; · iexact HR
    iexists W; iexact HO
  iempintro

/-- A transfer of the first phase: the slot it reads, the slot it fills, its two duties. -/
def sendBIn (c : Dev nD) (r : Fin 15) : sProp 𝕄 :=
  iprop(slotP c (up c r) (pb c) ∗ (∃ f, slotB (up c r) r.succ f)
    ∗ dutyTok ER (cell c (some (0, r.succ))) 0 0 ∗ dutyTok ER (cell (up c r) (some (1, r.succ))) 0 0)
def sendBI (c : Dev nD) (ks : List (Fin 15)) : sProp 𝕄 :=
  iprop(records pb ob K ∗ ∃ W, owes (c : Thread nD τ) (oweB c ks + oweC c L15) W)

theorem step_sendB (c : Dev nD) (r : Fin 15) (ks : List (Fin 15)) (cont : P F) (Q : PUnit → sProp 𝕄)
    (n : Dev nD) (hn : n = up c r) (src : Memref sig .tc .vmem S16x512 .bf16) (hs : src = paySlot (up c r))
    {hsc : (landM r.succ : Memref sig (Dev.tc n : Thread nD τ).2.kind .vmem S16x512 .bf16).view.ref.isScScratch = false}
    {hsrc : src.view.WordExact} {hdst : (landM r.succ).view.WordExact}
    {hsem : DmaTarget.Typed .vmem (.dma (semAt cc0_scratch3 r.succ).sem)
      (.remote (Dev.tc n : Thread nD τ) (landM r.succ) (.dma (semAt cc0_scratch2 r.succ).sem) hsc)} :
    iprop(sendBI pb ob K c (r :: ks) ∗ sendBIn pb c r
        ∗ ((sendBI pb ob K c ks ∗ cred (tallyAt (cell c (some (0, r.succ))) () (amt 0))) -∗ WP c cont Q))
      ⊢ WP c ((Prog.lift (.enqueueDma src (.remote (Dev.tc n) (landM r.succ) (.dma (semAt cc0_scratch2 r.succ).sem) hsc)
          (.dma (semAt cc0_scratch3 r.succ).sem) hsrc hdst hsem) : P F).bind fun _ => cont) Q := by
  subst hn hs
  unfold sendBI sendBIn
  iintro ⟨⟨#HR, %W, HO⟩, ⟨HP, ⟨%fd, HB⟩, HT₁, HT₂⟩, Hk⟩
  ihave #HI₁ := (inv_at pb ob K c (some (0, r.succ))) $$ HR
  ihave #HI₂ := (inv_at pb ob K (up c r) (some (1, r.succ))) $$ HR
  ihave #Hr₁ := (reached_at pb ob K c (some (0, r.succ))) $$ HR
  ihave #Hr₂ := (reached_at pb ob K (up c r) (some (1, r.succ))) $$ HR
  have h : iprop(cellInv ER (sched pb ob) (K (c, some (0, r.succ))) (cell c (some (0, r.succ)))
        ∗ cellInv ER (sched pb ob) (K (up c r, some (1, r.succ))) (cell (up c r) (some (1, r.succ)))
        ∗ slotP c (up c r) (pb c) ∗ slotB (up c r) r.succ fd
        ∗ owes (c : Thread nD τ) (oweB c (r :: ks) + oweC c L15) W
        ∗ dutyTok ER (cell c (some (0, r.succ))) 0 0 ∗ reached ER (cell c (some (0, r.succ))) 0
        ∗ dutyTok ER (cell (up c r) (some (1, r.succ))) 0 0 ∗ reached ER (cell (up c r) (some (1, r.succ))) 0)
      ⊢ iprop(((cred (tallyAt (cell c (some (0, r.succ))) () NB) ∗ owes (c : Thread nD τ) (oweB c ks + oweC c L15) W) -∗ WP c cont Q)
          -∗ WP c ((Prog.lift (.enqueueDma (paySlot (up c r)) (.remote (Dev.tc (up c r)) (landM r.succ) (.dma (semAt cc0_scratch2 r.succ).sem) hsc)
          (.dma (semAt cc0_scratch3 r.succ).sem) hsrc hdst hsem) : P F).bind fun _ => cont) Q) := by
    unfold slotP slotB
    rw [← set_land r.succ, ← set_pay (up c r)]
    have hd1 : (0 : Fin 15) ∈ (sched pb ob).duties (cell c (some (0, r.succ))) 0 := by rw [duties_xfer pb ob c 0 r]; exact Finset.mem_singleton_self _
    have hd2 : (0 : Fin 15) ∈ (sched pb ob).duties (cell (up c r) (some (1, r.succ))) 0 := by rw [duties_xfer pb ob (up c r) 1 r]; exact Finset.mem_singleton_self _
    have hk1 := sched_amount pb ob c (some (0, r.succ)) 0
    have hk2 := sched_amount pb ob (up c r) (some (1, r.succ)) 0
    have hO := oweB_cons c r ks (oweC c L15)
    have hp1 : ((paySlot (up c r)).view.loc (c : Thread nD τ) ↦[(paySlot (up c r)).view.set]{fullShare} pb c : sProp 𝕄)
        ⊢ (sched pb ob).payload (cell c (some (0, r.succ))) 0 0 := by
      rw [sched_payload pb ob c (some (0, r.succ)) 0]; show _ ⊢ slotP c (up c r) (pb c); unfold slotP; rw [set_pay (up c r)]
    have hp2 : ((landM r.succ).view.loc (up c r : Thread nD τ) ↦[(landM r.succ).view.set]{fullShare} ((landM r.succ).view.write (Elt F) fd ((paySlot (up c r)).view.read (Elt F) (pb c)) Finset.univ) : sProp 𝕄) ⊢ (sched pb ob).payload (cell (up c r) (some (1, r.succ))) 0 0 := by
        rw [sched_payload pb ob (up c r) (some (1, r.succ)) 0]; show _ ⊢ slotB (up c r) r.succ (rsOf pb (up c r)); unfold slotB
        rw [set_land r.succ]
        exact Entails.of_eq (pointsTo_congr (ℓ := (up c r : Thread nD τ).loc cc0_scratch1) (q := fullShare) (landed_on pb c r fd))
    exact Rounds.wp_send_pointsTo 𝒱₀ ER (sched pb ob) (c : Thread nD τ) none (κ₁ := K (c, some (0, r.succ))) (κ₂ := K (up c r, some (1, r.succ)))
      (c' := (up c r : Thread nD τ)) (src := paySlot (up c r)) (dst := landM r.succ) (sS := csem (some (0, r.succ))) (sem := csem (some (1, r.succ)))
      (hsc := hsc) (hsrc := hsrc) (hdst := hdst) (hsem := hsem) (k := fun _ => cont) (Q := Q) (Es := Set.univ)
      (fd := fd) (fs := pb c) hd1 hd2 () () NB rfl hk1 hk2 (oweB c ks + oweC c L15) hO (W := W) hp1 hp2
  iapply h $$ [HP HB HO HT₁ HT₂]
  · isplitr; · iexact HI₁
    isplitr; · iexact HI₂
    isplitl [HP]; · iexact HP
    isplitl [HB]; · iexact HB
    isplitl [HO]; · iexact HO
    isplitl [HT₁]; · iexact HT₁
    isplitr; · iexact Hr₁
    isplitl [HT₂]; · iexact HT₂
    iexact Hr₂
  iintro ⟨HC, HO⟩
  iapply Hk
  isplitl [HO]
  · isplitr; · iexact HR
    iexists W; iexact HO
  iexact HC

/-- A transfer of the second phase: the share of the chunk it reads, the chunk it fills, its two duties. -/
def sendCIn (c : Dev nD) (r : Fin 15) : sProp 𝕄 :=
  iprop(chunkO c c (lent r) ob ∗ (∃ f, chunkO (up c r) c fullShare f)
    ∗ dutyTok ER (cell c (some (2, r.succ))) 0 0 ∗ dutyTok ER (cell (up c r) (some (3, r.succ))) 0 0)
def sendCI (c : Dev nD) (ks : List (Fin 15)) : sProp 𝕄 :=
  iprop(records pb ob K ∗ ∃ W, owes (c : Thread nD τ) (oweC c ks) W)

theorem step_sendC (c : Dev nD) (r : Fin 15) (ks : List (Fin 15)) (cont : P F) (Q : PUnit → sProp 𝕄)
    (n : Dev nD) (hn : n = up c r) (src : Memref sig .tc .vmem S64x512 .bf16) (hs : src = outChunk c)
    {hsc : (src : Memref sig (Dev.tc n : Thread nD τ).2.kind .vmem S64x512 .bf16).view.ref.isScScratch = false}
    {hsrc : src.view.WordExact} {hdst : src.view.WordExact}
    {hsem : DmaTarget.Typed .vmem (.dma (semAt cc0_scratch5 r.succ).sem)
      (.remote (Dev.tc n : Thread nD τ) src (.dma (semAt cc0_scratch4 r.succ).sem) hsc)} :
    iprop(sendCI pb ob K c (r :: ks) ∗ sendCIn ob c r
        ∗ ((sendCI pb ob K c ks ∗ cred (tallyAt (cell c (some (2, r.succ))) () (amt 2))) -∗ WP c cont Q))
      ⊢ WP c ((Prog.lift (.enqueueDma src (.remote (Dev.tc n) src (.dma (semAt cc0_scratch4 r.succ).sem) hsc)
          (.dma (semAt cc0_scratch5 r.succ).sem) hsrc hdst hsem) : P F).bind fun _ => cont) Q := by
  subst hn hs
  unfold sendCI sendCIn
  iintro ⟨⟨#HR, %W, HO⟩, ⟨HP, ⟨%fd, HB⟩, HT₁, HT₂⟩, Hk⟩
  ihave #HI₁ := (inv_at pb ob K c (some (2, r.succ))) $$ HR
  ihave #HI₂ := (inv_at pb ob K (up c r) (some (3, r.succ))) $$ HR
  ihave #Hr₁ := (reached_at pb ob K c (some (2, r.succ))) $$ HR
  ihave #Hr₂ := (reached_at pb ob K (up c r) (some (3, r.succ))) $$ HR
  have h : iprop(cellInv ER (sched pb ob) (K (c, some (2, r.succ))) (cell c (some (2, r.succ)))
        ∗ cellInv ER (sched pb ob) (K (up c r, some (3, r.succ))) (cell (up c r) (some (3, r.succ)))
        ∗ chunkO c c (lent r) ob ∗ chunkO (up c r) c fullShare fd
        ∗ owes (c : Thread nD τ) (oweC c (r :: ks)) W
        ∗ dutyTok ER (cell c (some (2, r.succ))) 0 0 ∗ reached ER (cell c (some (2, r.succ))) 0
        ∗ dutyTok ER (cell (up c r) (some (3, r.succ))) 0 0 ∗ reached ER (cell (up c r) (some (3, r.succ))) 0)
      ⊢ iprop(((cred (tallyAt (cell c (some (2, r.succ))) () NC) ∗ owes (c : Thread nD τ) (oweC c ks) W) -∗ WP c cont Q)
          -∗ WP c ((Prog.lift (.enqueueDma (outChunk c) (.remote (Dev.tc (up c r)) (outChunk c) (.dma (semAt cc0_scratch4 r.succ).sem) hsc)
          (.dma (semAt cc0_scratch5 r.succ).sem) hsrc hdst hsem) : P F).bind fun _ => cont) Q) := by
    unfold chunkO
    rw [← set_out c]
    have hd1 : (0 : Fin 15) ∈ (sched pb ob).duties (cell c (some (2, r.succ))) 0 := by
      rw [duties_xfer pb ob c 2 r]; exact Finset.mem_singleton_self _
    have hd2 : (0 : Fin 15) ∈ (sched pb ob).duties (cell (up c r) (some (3, r.succ))) 0 := by
      rw [duties_xfer pb ob (up c r) 3 r]; exact Finset.mem_singleton_self _
    have hk1 := sched_amount pb ob c (some (2, r.succ)) 0
    have hk2 := sched_amount pb ob (up c r) (some (3, r.succ)) 0
    have hO := oweC_cons c r ks
    have hp1 : ((outChunk c).view.loc (c : Thread nD τ) ↦[(outChunk c).view.set]{lent r} ob : sProp 𝕄)
        ⊢ (sched pb ob).payload (cell c (some (2, r.succ))) 0 0 := by
      rw [sched_payload pb ob c (some (2, r.succ)) 0]
      show _ ⊢ chunkO c c (lent r) ob
      unfold chunkO; rw [set_out c]
    have hp2 : ((outChunk c).view.loc (up c r : Thread nD τ) ↦[(outChunk c).view.set]{fullShare}
          ((outChunk c).view.write (Elt F) fd ((outChunk c).view.read (Elt F) ob) Finset.univ) : sProp 𝕄)
        ⊢ (sched pb ob).payload (cell (up c r) (some (3, r.succ))) 0 0 := by
      rw [sched_payload pb ob (up c r) (some (3, r.succ)) 0]
      show _ ⊢ chunkO (up c r) (dn (up c r) r.succ) fullShare ob
      rw [dn_up]; unfold chunkO; rw [set_out c]
      exact Entails.of_eq (pointsTo_congr (ℓ := (up c r : Thread nD τ).loc cc0_stg5_0) (q := fullShare) (chunk_on ob c fd))
    exact Rounds.wp_send_pointsTo 𝒱₀ ER (sched pb ob) (c : Thread nD τ) none (κ₁ := K (c, some (2, r.succ))) (κ₂ := K (up c r, some (3, r.succ)))
      (c' := (up c r : Thread nD τ)) (src := outChunk c) (dst := outChunk c) (sS := csem (some (2, r.succ))) (sem := csem (some (3, r.succ)))
      (hsc := hsc) (hsrc := hsrc) (hdst := hdst) (hsem := hsem) (k := fun _ => cont) (Q := Q) (Es := Set.univ)
      (fd := fd) (fs := ob) hd1 hd2 () () NC rfl hk1 hk2 (oweC c ks) hO (W := W) hp1 hp2
  iapply h $$ [HP HB HO HT₁ HT₂]
  · isplitr; · iexact HI₁
    isplitr; · iexact HI₂
    isplitl [HP]; · iexact HP
    isplitl [HB]; · iexact HB
    isplitl [HO]; · iexact HO
    isplitl [HT₁]; · iexact HT₁
    isplitr; · iexact Hr₁
    isplitl [HT₂]; · iexact HT₂
    iexact Hr₂
  iintro ⟨HC, HO⟩
  iapply Hk
  isplitl [HO]
  · isplitr; · iexact HR
    iexists W; iexact HO
  iexact HC

/-- A wait on a transfer's semaphore, while `O` is owed. -/
def waitI (c : Dev nD) (O : CellTallies nD τ sig Unit) : sProp 𝕄 :=
  iprop(records pb ob K ∗ levAts L lv ∗ ∃ W, owes (c : Thread nD τ) O W)
def waitIn (c : Dev nD) (a : Fin 4) (r : Fin 15) : sProp 𝕄 :=
  iprop(cred (tallyAt (cell c (some (a, r.succ))) () (amt a)) ∗ atPos ER (cell c (some (a, r.succ))) 0 ∅ 0)
def waitOut (c : Dev nD) (a : Fin 4) (r : Fin 15) : sProp 𝕄 :=
  iprop(atPos ER (cell c (some (a, r.succ))) 1 ∅ 0 ∗ xferPay pb ob c a r.succ)

theorem step_wait (c : Dev nD) (a : Fin 4) (O : CellTallies nD τ sig Unit)
    (hO : ∀ g u, 0 < O g u → ∃ d κ, g = cell d κ ∧ lvK (some (some (a, 0))) < lvK (some κ))
    (r : Fin 15) (cont : P F) (Q : PUnit → sProp 𝕄)
    {κ : Kind} {sp sp' : Space} {s s' : Shape} {e e' : EltTy} (src : Memref sig .tc sp' s' e') (dst : Memref sig κ sp s e)
    (hs : src.view.WordExact) (hd : dst.view.WordExact) (S : DmaSem sig) (hS : S = (semAt (arrS a) r.succ).sem) (hN : dst.view.dmaCredit = amt a) :
    iprop(waitI pb ob K c O ∗ waitIn c a r ∗ ((waitI pb ob K c O ∗ waitOut pb ob c a r) -∗ WP c cont Q))
      ⊢ WP c ((Prog.lift (.waitDma2 S src dst hs hd) : P F).bind fun _ => cont) Q := by
  subst hS
  unfold waitI waitIn waitOut
  iintro ⟨⟨#HR, #HL, %W, HO⟩, ⟨HC, HA⟩, Hk⟩
  ihave #HI := (inv_at pb ob K c (some (a, r.succ))) $$ HR
  iapply (Rounds.wp_wait_rest_token 𝒱₀ ER (sched pb ob) (c : Thread nD τ) none (κ := K (c, some (a, r.succ)))
      (wpE_waitDma2_eq 𝒱₀ (c : Thread nD τ) none Set.univ) (Set.mem_univ _) () (O := O) (W := W) (R := 0) (m := 0) (T := ∅)
      (by rw [Nat.zero_add, show ((c : Thread nD τ), SemLoc.dma (semAt (arrS a) r.succ).sem) = cell c (some (a, r.succ)) from rfl, expect_xfer, hN])) $$ [HC HO HA]
  · isplitr; · iexact HI
    isplitl [HC]; · rw [hN]; iexact HC
    isplitl [HO]; · iexact HO
    isplitr
    · iapply (mayWait_of c (csem (some (a, r.succ))) (lvK (some (some (a, 0)))) (by rw [kindOf_csem]; fin_cases a <;> exact le_rfl) O hO); iexact HL
    iexact HA
  iintro ⟨HO, HA, -, Hpay⟩
  rw [show ((c : Thread nD τ), SemLoc.dma (semAt (arrS a) r.succ).sem) = cell c (some (a, r.succ)) from rfl]
  ihave Hp := (Entails.of_eq (rest_xfer pb ob c a r)) $$ Hpay
  iapply Hk
  isplitl [HO]
  · isplitr; · iexact HR
    isplitr; · iexact HL
    iexists _; iexact HO
  isplitl [HA]; · iexact HA
  iexact Hp

end Cert.Moe

end
-- ==== Proof.Phases.lean ====
/-
# The phases of the body

Each row of the body, run over the whole mesh: the entry handshake, the filling of the payload, the transfers of the first
phase and the waits on them, the transfers of the second phase and the waits on them.
-/
module

public import proofs.«01_k».proof.Proof.Steps
public import Idealize.ShloMosaic.Lib.Ring

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## Lists of resources -/

theorem zip_in {ι : Type} (l : List ι) (Φ Ψ : ι → sProp 𝕄) : iprop(bigSepL l Φ ∗ bigSepL l Ψ) ⊢ bigSepL l fun i => iprop(Φ i ∗ Ψ i) := by
  induction l with
  | nil => rw [bigSepL_nil, bigSepL_nil, bigSepL_nil]; iintro ⟨-, -⟩; iempintro
  | cons i l ih =>
    rw [bigSepL_cons', bigSepL_cons', bigSepL_cons']
    iintro ⟨⟨H1, H2⟩, H3, H4⟩
    isplitl [H1 H3]
    · isplitl [H1]; · iexact H1
      iexact H3
    iapply ih
    isplitl [H2]; · iexact H2
    iexact H4
theorem zip_out {ι : Type} (l : List ι) (Φ Ψ : ι → sProp 𝕄) : (bigSepL l fun i => iprop(Φ i ∗ Ψ i)) ⊢ iprop(bigSepL l Φ ∗ bigSepL l Ψ) := by
  induction l with
  | nil => rw [bigSepL_nil, bigSepL_nil, bigSepL_nil]; iintro -; isplitl <;> iempintro
  | cons i l ih =>
    rw [bigSepL_cons', bigSepL_cons', bigSepL_cons']
    iintro ⟨⟨H1, H2⟩, H3⟩
    ihave H := ih $$ H3
    icases H with ⟨H3, H4⟩
    isplitl [H1 H3]
    · isplitl [H1]; · iexact H1
      iexact H3
    isplitl [H2]; · iexact H2
    iexact H4
theorem each_weaken {ι : Type} (l : List ι) {Φ Ψ : ι → sProp 𝕄} (h : ∀ i, Φ i ⊢ Ψ i) : bigSepL l Φ ⊢ bigSepL l Ψ := bigSepL_mono fun i _ => h i
theorem emps {ι : Type} (l : List ι) : (iprop(emp) : sProp 𝕄) ⊢ bigSepL l fun _ => iprop(emp) := by
  induction l with
  | nil => exact .rfl
  | cons i l ih =>
    rw [bigSepL_cons']
    iintro -
    isplitl
    · iempintro
    iapply ih; iempintro

/-! ## Whole buffers and their parts -/

def wholeP (c : Dev nD) (f : (cc0_scratch0 : Ref sig .tc).ty.Contents (Elt F)) : sProp 𝕄 := (c : Thread nD τ).loc cc0_scratch0 ↦{fullShare} f
def wholeB (c : Dev nD) (f : (cc0_scratch1 : Ref sig .tc).ty.Contents (Elt F)) : sProp 𝕄 := (c : Thread nD τ).loc cc0_scratch1 ↦{fullShare} f
def wholeO (c : Dev nD) (f : (cc0_stg5_0 : Ref sig .tc).ty.Contents (Elt F)) : sProp 𝕄 := (c : Thread nD τ).loc cc0_stg5_0 ↦{fullShare} f

/-- A part for each of the sixteen, from any one of them and the fifteen others as a renumbering lists them. -/
theorem parts (Φ : Fin 16 → sProp 𝕄) (e : Fin 16 ≃ Fin 16) :
    bigSep Finset.univ Φ = iprop(Φ (e 0) ∗ bigSepL L15 fun r : Fin 15 => Φ (e r.succ)) := by
  rw [bigSep_univ_equiv e Φ, bigSep_univ_succ (m := 15), bigSep_univ_eq_bigSepL L15 (by decide) (by decide)]

theorem wholeP_eq (c : Dev nD) (f) : (wholeP c f : sProp 𝕄) = bigSep Finset.univ fun k : Fin 16 => slotP c k f :=
  Ring.pointsTo_blocks (ℓ := (c : Thread nD τ).loc cc0_scratch0) (fun k : Fin 16 => (slotRect k).set) slot_disj slot_cover f
theorem wholeB_eq (c : Dev nD) (f) : (wholeB c f : sProp 𝕄) = bigSep Finset.univ fun k : Fin 16 => slotB c k f :=
  Ring.pointsTo_blocks (ℓ := (c : Thread nD τ).loc cc0_scratch1) (fun k : Fin 16 => (slotRect k).set) slot_disj slot_cover f
theorem wholeO_eq (c : Dev nD) (f) : (wholeO c f : sProp 𝕄) = bigSep Finset.univ fun k : Fin 16 => chunkO c k fullShare f :=
  Ring.pointsTo_blocks (ℓ := (c : Thread nD τ).loc cc0_stg5_0) (fun k : Fin 16 => (chunkRect k).set) chunk_disj chunk_cover f

/-- The renumberings: up the mesh from a device, down it, and by the slot a device's signal hands over. -/
def upE (c : Dev nD) : Fin 16 ≃ Fin 16 := ⟨fun k => (c + k : Fin 16), fun k => (k - c : Fin 16), by revert c; decide +kernel, by revert c; decide +kernel⟩
def dnE (c : Dev nD) : Fin 16 ≃ Fin 16 := ⟨dn c, dn c, by revert c; decide +kernel, by revert c; decide +kernel⟩
def ngE : Fin 16 ≃ Fin 16 := ⟨fun k => -k, fun k => -k, by decide, by decide⟩
theorem upE_zero (c : Dev nD) : upE c 0 = c := by revert c; decide +kernel

theorem wholeP_up (c : Dev nD) (f) : (wholeP c f : sProp 𝕄) = iprop(slotP c c f ∗ bigSepL L15 fun r => slotP c (up c r) f) := by
  rw [wholeP_eq, parts _ (upE c), upE_zero]; rfl
theorem wholeO_up (c : Dev nD) (f) : (wholeO c f : sProp 𝕄) = iprop(chunkO c c fullShare f ∗ bigSepL L15 fun r => chunkO c (up c r) fullShare f) := by
  rw [wholeO_eq, parts _ (upE c), upE_zero]; rfl
theorem wholeO_dn (c : Dev nD) (f) : (wholeO c f : sProp 𝕄) = iprop(chunkO c c fullShare f ∗ bigSepL L15 fun r => chunkO c (dn c r.succ) fullShare f) := by
  rw [wholeO_eq, parts _ (dnE c), show dnE c 0 = c from dn_zero c]; rfl
theorem wholeB_succ (c : Dev nD) (f) : (wholeB c f : sProp 𝕄) = iprop(slotB c 0 f ∗ bigSepL L15 fun r => slotB c r.succ f) := by
  rw [wholeB_eq, parts _ (Equiv.refl _)]; rfl
theorem wholeB_rev (c : Dev nD) (f) : (wholeB c f : sProp 𝕄) = iprop(slotB c 0 f ∗ bigSepL L15 fun r => slotB c r.rev.succ f) := by
  rw [wholeB_eq, parts _ ngE]
  have h : ∀ r : Fin 15, ngE r.succ = r.rev.succ := by decide
  simp only [h]; rfl

/-- A device's own chunk, in the shares it lends. -/
theorem chunk_lent (c : Dev nD) (f) : (chunkO c c fullShare f : sProp 𝕄) = bigSepL L15 fun r => chunkO c c (lent r) f := by
  rw [← bigSep_univ_eq_bigSepL L15 (by decide) (by decide)]
  unfold chunkO lent
  exact pointsTo_pieces (ℓ := (c : Thread nD τ).loc cc0_stg5_0) (chunkRect c).set f 14 fullShare

variable (pb : Dev nD → (cc0_scratch0 : Ref sig .tc).ty.Contents (Elt F)) (ob : (cc0_stg5_0 : Ref sig .tc).ty.Contents (Elt F))
variable (K : Dev nD × Kd → ℕ)

/-! ## The entry handshake -/

theorem run_signals (c : Dev nD) (f) (g) (rest : P F) (Q : PUnit → sProp 𝕄) :
    iprop(sigI pb ob K c L15 ∗ (bigSepL L15 fun r => dutyTok ER (cell (up c r) none) 0 r.rev) ∗ wholeB c f ∗ wholeO c g
        ∗ ((sigI pb ob K c [] ∗ slotB c 0 f ∗ chunkO c c fullShare g) -∗ WP c rest Q))
      ⊢ WP c (signals c rest) Q := by
  rw [wholeB_rev, wholeO_up]
  iintro ⟨HI, HT, ⟨HB0, HB⟩, ⟨HO0, HO⟩, Hk⟩
  unfold signals
  iapply (wp_each c (sigI pb ob K c) (sigIn c) (fun _ => iprop(emp)) _ (step_signal pb ob K c) L15 rest Q)
  isplitl [HI]; · iexact HI
  isplitl [HT HB HO]
  · unfold sigIn
    iapply (zip_in L15)
    isplitl [HT]; · iexact HT
    iapply (zip_in L15)
    isplitl [HB]
    · iapply (each_weaken L15 (fun r => (by iintro H; iexists f; iexact H : slotB c r.rev.succ f ⊢ iprop(∃ f, slotB c r.rev.succ f)))); iexact HB
    · iapply (each_weaken L15 (fun r => (by iintro H; iexists g; iexact H : chunkO c (up c r) fullShare g ⊢ iprop(∃ g, chunkO c (up c r) fullShare g)))); iexact HO
  iintro ⟨HI, -⟩
  iapply Hk
  isplitl [HI]; · iexact HI
  isplitl [HB0] <;> iassumption

/-- The room the barrier's units bring: a slot of every other device's landing buffer and a chunk of its result. -/
def roomB (c : Dev nD) : sProp 𝕄 := bigSepL L15 fun r => iprop(∃ f, slotB (F := F) (up c r) r.succ f)
def roomC (c : Dev nD) : sProp 𝕄 := bigSepL L15 fun r => iprop(∃ f, chunkO (F := F) (up c r) c fullShare f)

theorem run_barrier (c : Dev nD) (rest : P F) (Q : PUnit → sProp 𝕄) :
    iprop(sigI pb ob K c [] ∗ levAts L lv ∗ cred (tallyAt (cell c none) () 15) ∗ atPos ER (cell c none) 0 ∅ 0
        ∗ ((sendBI pb ob K c L15 ∗ atPos ER (cell c none) 1 ∅ 0 ∗ roomB c ∗ roomC c) -∗ WP c rest Q))
      ⊢ WP c ((semWaitWord barS 15#32 : P F).bind fun _ => rest) Q := by
  unfold sigI sendBI roomB roomC
  iintro ⟨⟨#HR, %W, HO⟩, #HL, HC, HA, Hk⟩
  ihave #HI := (inv_at pb ob K c none) $$ HR
  iapply (Rounds.wp_wait_rest_token 𝒱₀ ER (sched pb ob) (c : Thread nD τ) none (κ := K (c, none))
      (wpE_semWait_eq 𝒱₀ (c : Thread nD τ) none Set.univ) (Set.mem_univ _) () (O := oweB c L15 + oweC c L15) (W := W) (R := 0) (m := 0) (T := ∅)
      (by rw [show ((c : Thread nD τ), SemLoc.reg barS) = cell c none from rfl, expect_bar]; decide)) $$ [HC HO HA]
  · isplitr; · iexact HI
    isplitl [HC]; · iexact HC
    isplitl [HO]
    · have h0 : oweA c [] + (oweB c L15 + oweC c L15) = oweB c L15 + oweC c L15 := zero_add _
      rw [h0]; iexact HO
    isplitr
    · iapply (mayWait_of c (csem none) 1 (by rw [kindOf_csem]; exact le_rfl) _ (fun _ _ => oweBC_pos)); iexact HL
    iexact HA
  iintro ⟨HO, HA, -, Hpay⟩
  rw [show ((c : Thread nD τ), SemLoc.reg barS) = cell c none from rfl]
  ihave Hp := (Entails.of_eq (rest_bar pb ob c)) $$ Hpay
  unfold barPay
  ihave Hp := (zip_out L15 _ _) $$ Hp
  icases Hp with ⟨Hb, Hc⟩
  iapply Hk
  isplitl [HO]
  · isplitr; · iexact HR
    iexists _; iexact HO
  isplitl [HA]; · iexact HA
  isplitl [Hb] <;> iassumption

/-! ## The payload -/

/-- What the payload buffer holds when it is filled from `y`. -/
def payOf (y : FVec F S256x512 .bf16) : (cc0_scratch0 : Ref sig .tc).ty.Contents (Elt F) :=
  fun i : S16x16x512.Idx => slotVal y (i 0) (ix3 (n0 := 1) (n1 := 16) (n2 := 512) 0 (i 1) (i 2))

/-- The slot an index lies in. -/
def slotIx (i : S16x16x512.Idx) : Fin 16 := i 0

/-- While the slots of the list are still to be filled. -/
def storeI (c : Dev nD) (y : FVec F S256x512 .bf16) (ks : List (Fin 16)) : sProp 𝕄 :=
  iprop(∃ f, wholeP c f ∗ ⌜∀ i : S16x16x512.Idx, slotIx i ∉ ks → f i = payOf y i⌝)

theorem store_slot (y : FVec F S256x512 .bf16) (k : Fin 16) (f : (cc0_scratch0 : Ref sig .tc).ty.Contents (Elt F)) (i : S16x16x512.Idx) :
    (pM.access (slotRect k)).write (Elt F) f (slotVal y k) Finset.univ i = if (i 0).val = k.val then payOf y i else f i := by
  split
  next h =>
    have hi : i ∈ (pM.access (slotRect k)).set := by
      rw [show (pM.access (slotRect k)).set = (slotRect k).set from View.set_slice_whole _ _]; exact mem_slot.mpr (Fin.ext h)
    obtain ⟨x, -, rfl⟩ := Finset.mem_map.mp hi
    refine (View.write_emb_of_mem (v := pM.access (slotRect k)) _ _ (Finset.mem_univ x)).trans ?_
    show slotVal y k x = payOf y ((slotRect k).emb x)
    rw [slot_emb]
    show slotVal y k x = slotVal y k (ix3 0 (x 1) (x 2))
    refine congrArg _ ?_
    have h0 : (x 0).val = 0 := by have := (x 0).isLt; simp only [S1x16x512] at this; exact Nat.lt_one_iff.mp this
    funext a; fin_cases a
    · exact Fin.ext h0
    · rfl
    · rfl
  next h =>
    refine View.write_of_not_mem (v := pM.access (slotRect k)) _ _ _ ?_
    rw [View.setOn_univ, show (pM.access (slotRect k)).set = (slotRect k).set from View.set_slice_whole _ _]
    exact fun hi => h (congrArg Fin.val (mem_slot.mp hi))

theorem step_store (c : Dev nD) (y : FVec F S256x512 .bf16) (k : Fin 16) (ks : List (Fin 16)) (cont : P F) (Q : PUnit → sProp 𝕄)
    {hl : View.LoadsAt pM.view (slotRect k).toLoadRect} {hx : (pM.access (slotRect k)).Stores Finset.univ}
    {hm : (Finset.univ : Finset (slotRect k).shape.Idx) = Finset.univ ∨ ∀ a, (slotRect k).stride a = 1} :
    iprop(storeI c y (k :: ks) ∗ emp ∗ ((storeI c y ks ∗ emp) -∗ WP c cont Q))
      ⊢ WP c (((Prog.lift (.load pM (slotRect k).toLoadRect hl)).bind fun (_ : Vec F S1x16x512 .bf16) =>
        (Prog.lift (.store pM (slotRect k) (slotVal y k) Finset.univ hx hm) : P F)).bind fun _ => cont) Q := by
  unfold storeI wholeP
  iintro ⟨⟨%f, HP, %hf⟩, -, Hk⟩
  iapply (wp_load 𝒱₀ (c : Thread nD τ) none Set.univ (m := pM) (Finset.subset_univ _)) $$ HP; iintro HP
  iapply (wp_store 𝒱₀ (c : Thread nD τ) none Set.univ (m := pM) (r := slotRect k) (Mk := Finset.univ) (Finset.subset_univ _)) $$ HP; iintro HP
  iapply Hk
  isplitl
  · iexists _
    isplitl; · iexact HP
    ipureintro
    intro i hi
    refine (store_slot y k f i).trans ?_
    split
    next => rfl
    next h => exact hf i (by rw [List.mem_cons]; exact fun h' => h'.elim (fun e => h (congrArg Fin.val e)) hi)
  iempintro

theorem run_stores (c : Dev nD) (y : FVec F S256x512 .bf16) (f) (rest : P F) (Q : PUnit → sProp 𝕄) :
    iprop(wholeP c f ∗ (wholeP c (payOf y) -∗ WP c rest Q)) ⊢ WP c (stores y rest) Q := by
  unfold stores
  iintro ⟨HP, Hk⟩
  iapply (wp_each c (storeI c y) (fun _ => iprop(emp)) (fun _ => iprop(emp)) _ (fun k ks cont Q => step_store c y k ks cont Q) L16 rest Q)
  isplitl [HP]
  · unfold storeI; iexists f
    isplitl; · iexact HP
    ipureintro
    have h16 : ∀ k : Fin 16, k ∈ L16 := by decide
    exact fun i hi => absurd (h16 (slotIx i)) hi
  isplitr
  · iapply (emps L16); iempintro
  iintro ⟨HI, -⟩
  iapply Hk
  unfold storeI
  icases HI with ⟨%g, HP, %hg⟩
  have : g = payOf y := funext fun i => hg i List.not_mem_nil
  subst this
  iexact HP

/-! ## The transfers -/

theorem run_sendsB (c : Dev nD) (rest : P F) (Q : PUnit → sProp 𝕄) :
    iprop(sendBI pb ob K c L15 ∗ wholeP c (pb c) ∗ roomB c
        ∗ (bigSepL L15 fun r => iprop(dutyTok ER (cell c (some (0, r.succ))) 0 0 ∗ dutyTok ER (cell (up c r) (some (1, r.succ))) 0 0))
        ∗ ((sendBI pb ob K c [] ∗ slotP c c (pb c) ∗ bigSepL L15 fun r => cred (tallyAt (cell c (some (0, r.succ))) () (amt 0))) -∗ WP c rest Q))
      ⊢ WP c (sendsB c rest) Q := by
  rw [wholeP_up]
  unfold roomB
  iintro ⟨HI, ⟨HP0, HP⟩, HR, HT, Hk⟩
  unfold sendsB
  iapply (wp_each c (sendBI pb ob K c) (sendBIn pb c) (fun r => cred (tallyAt (cell c (some (0, r.succ))) () (amt 0))) _
    (fun r ks cont Q => step_sendB pb ob K c r ks cont Q _ (devB_eq c r) _ (payM_eq c r)) L15 rest Q)
  isplitl [HI]; · iexact HI
  isplitl [HP HR HT]
  · unfold sendBIn
    iapply (zip_in L15)
    isplitl [HP]; · iexact HP
    iapply (zip_in L15)
    isplitl [HR] <;> iassumption
  iintro ⟨HI, HC⟩
  iapply Hk
  isplitl [HI]; · iexact HI
  isplitl [HP0] <;> iassumption

theorem run_sendsC (c : Dev nD) (rest : P F) (Q : PUnit → sProp 𝕄) :
    iprop(sendCI pb ob K c L15 ∗ chunkO c c fullShare ob ∗ roomC c
        ∗ (bigSepL L15 fun r => iprop(dutyTok ER (cell c (some (2, r.succ))) 0 0 ∗ dutyTok ER (cell (up c r) (some (3, r.succ))) 0 0))
        ∗ ((sendCI pb ob K c [] ∗ bigSepL L15 fun r => cred (tallyAt (cell c (some (2, r.succ))) () (amt 2))) -∗ WP c rest Q))
      ⊢ WP c (sendsC c rest) Q := by
  rw [chunk_lent]
  unfold roomC
  iintro ⟨HI, HP, HR, HT, Hk⟩
  unfold sendsC
  iapply (wp_each c (sendCI pb ob K c) (sendCIn ob c) (fun r => cred (tallyAt (cell c (some (2, r.succ))) () (amt 2))) _
    (fun r ks cont Q => step_sendC pb ob K c r ks cont Q _ (devC_eq c r) _ (chunkM_eq c)) L15 rest Q)
  isplitl [HI]; · iexact HI
  isplitl [HP HR HT]
  · unfold sendCIn
    iapply (zip_in L15)
    isplitl [HP]; · iexact HP
    iapply (zip_in L15)
    isplitl [HR] <;> iassumption
  iintro ⟨HI, HC⟩
  iapply Hk
  isplitl [HI] <;> iassumption

/-! ## The waits -/

/-- The positions of the fifteen cells of an array that carry a transfer, at round `n`. -/
def atL (c : Dev nD) (a : Fin 4) (n : ℕ) : sProp 𝕄 := bigSepL L15 fun r => atPos ER (cell c (some (a, r.succ))) n ∅ 0
def credL (c : Dev nD) (a : Fin 4) : sProp 𝕄 := bigSepL L15 fun r => cred (tallyAt (cell c (some (a, r.succ))) () (amt a))
def payL (c : Dev nD) (a : Fin 4) : sProp 𝕄 := bigSepL L15 fun r => xferPay pb ob c a r.succ

theorem land_credit (k : Fin 16) : (landM k).view.dmaCredit = amt 1 := rfl
theorem pay_credit (k : Fin 16) : (paySlot k).view.dmaCredit = amt 0 := rfl
theorem out_credit (k : Fin 16) : (outChunk k).view.dmaCredit = amt 3 := rfl

/-- A row of waits on the fifteen cells of array `a`, while `O` is owed. -/
theorem run_waits (c : Dev nD) (a : Fin 4) (O : CellTallies nD τ sig Unit) (f : Fin 15 → P F)
    (step : ∀ r (cont : P F) (Q : PUnit → sProp 𝕄),
      iprop(waitI pb ob K c O ∗ waitIn c a r ∗ ((waitI pb ob K c O ∗ waitOut pb ob c a r) -∗ WP c cont Q)) ⊢ WP c ((f r).bind fun _ => cont) Q)
    (rest : P F) (Q : PUnit → sProp 𝕄) :
    iprop(waitI pb ob K c O ∗ credL c a ∗ atL c a 0 ∗ ((waitI pb ob K c O ∗ atL c a 1 ∗ payL pb ob c a) -∗ WP c rest Q))
      ⊢ WP c (each L15 f rest) Q := by
  unfold credL atL payL
  iintro ⟨HI, HC, HA, Hk⟩
  iapply (wp_each c (fun _ => waitI pb ob K c O) (waitIn c a) (waitOut pb ob c a) f (fun r _ cont Q => step r cont Q) L15 rest Q)
  isplitl [HI]; · iexact HI
  isplitl [HC HA]
  · unfold waitIn
    iapply (zip_in L15)
    isplitl [HC] <;> iassumption
  iintro ⟨HI, HB⟩
  unfold waitOut
  ihave HB := (zip_out L15 _ _) $$ HB
  iapply Hk
  isplitl [HI] <;> iassumption

theorem run_waitsB (c : Dev nD) (rest : P F) (Q : PUnit → sProp 𝕄) :
    iprop(waitI pb ob K c (oweC c L15) ∗ credL c 1 ∗ atL c 1 0 ∗ ((waitI pb ob K c (oweC c L15) ∗ atL c 1 1 ∗ payL pb ob c 1) -∗ WP c rest Q))
      ⊢ WP c (waitsB rest) Q :=
  run_waits pb ob K c 1 _ _ (fun r cont Q => step_wait pb ob K c 1 _ (fun _ _ => oweC_pos) r cont Q _ _ _ _ _ rfl (land_credit r.succ)) rest Q
theorem run_waitsBs (c : Dev nD) (rest : P F) (Q : PUnit → sProp 𝕄) :
    iprop(waitI pb ob K c 0 ∗ credL c 0 ∗ atL c 0 0 ∗ ((waitI pb ob K c 0 ∗ atL c 0 1 ∗ payL pb ob c 0) -∗ WP c rest Q))
      ⊢ WP c (waitsBs c rest) Q :=
  run_waits pb ob K c 0 _ _ (fun r cont Q => step_wait pb ob K c 0 _ (fun _ _ h => absurd h (Nat.lt_irrefl 0)) r cont Q _ _ _ _ _ rfl
    (by rw [payM_eq]; exact pay_credit _)) rest Q
theorem run_waitsC (c : Dev nD) (rest : P F) (Q : PUnit → sProp 𝕄) :
    iprop(waitI pb ob K c 0 ∗ credL c 3 ∗ atL c 3 0 ∗ ((waitI pb ob K c 0 ∗ atL c 3 1 ∗ payL pb ob c 3) -∗ WP c rest Q))
      ⊢ WP c (waitsC c rest) Q :=
  run_waits pb ob K c 3 _ _ (fun r cont Q => step_wait pb ob K c 3 _ (fun _ _ h => absurd h (Nat.lt_irrefl 0)) r cont Q _ _ _ _ _ rfl
    (by rw [chunkM_eq]; exact out_credit _)) rest Q
theorem run_waitsCs (c : Dev nD) (rest : P F) (Q : PUnit → sProp 𝕄) :
    iprop(waitI pb ob K c 0 ∗ credL c 2 ∗ atL c 2 0 ∗ ((waitI pb ob K c 0 ∗ atL c 2 1 ∗ payL pb ob c 2) -∗ WP c rest Q))
      ⊢ WP c (waitsCs c rest) Q :=
  run_waits pb ob K c 2 _ _ (fun r cont Q => step_wait pb ob K c 2 _ (fun _ _ h => absurd h (Nat.lt_irrefl 0)) r cont Q _ _ _ _ _ rfl
    (by rw [chunkM_eq]; exact out_credit _)) rest Q

/-! ## Closing the cells -/

/-- The counters of the sixteen cells of an array, at zero. -/
def zeros (c : Dev nD) (a : Fin 4) : sProp 𝕄 := bigSep Finset.univ fun k : Fin 16 => semVal (cell c (some (a, k))) 0

theorem close_list (c : Dev nD) (a : Fin 4) (l : List (Fin 15)) :
    iprop(records pb ob K ∗ bigSepL l fun r => atPos ER (cell c (some (a, r.succ))) 1 ∅ 0)
      ⊢ iprop(|={Set.univ}=> bigSepL l fun r => semVal (cell c (some (a, r.succ))) 0) := by
  induction l with
  | nil =>
    rw [bigSepL_nil, bigSepL_nil]
    iintro ⟨-, -⟩; imodintro; iempintro
  | cons r l ih =>
    rw [bigSepL_cons', bigSepL_cons']
    iintro ⟨#HR, HA, HL⟩
    ihave #HI := (inv_at pb ob K c (some (a, r.succ))) $$ HR
    imod (Rounds.cell_close ER (sched pb ob) (Set.mem_univ (K (c, some (a, r.succ)))) (fun h => h) (R := 1) (duties_later pb ob (cell c (some (a, r.succ))))) $$ [HA] with HZ
    · isplitr; · iexact HI
      iexact HA
    imod ih $$ [HL] with HL
    · isplitr; · iexact HR
      iexact HL
    imodintro
    isplitl [HZ] <;> iassumption

theorem close_array (c : Dev nD) (a : Fin 4) :
    iprop(records pb ob K ∗ atPos ER (cell c (some (a, 0))) 0 ∅ 0 ∗ atL c a 1) ⊢ iprop(|={Set.univ}=> zeros (F := F) c a) := by
  unfold zeros atL
  rw [parts _ (Equiv.refl _)]
  iintro ⟨#HR, HA, HL⟩
  ihave #HI := (inv_at pb ob K c (some (a, 0))) $$ HR
  imod (Rounds.cell_close ER (sched pb ob) (Set.mem_univ (K (c, some (a, 0)))) (fun h => h) (R := 0) (duties_idle pb ob c a)) $$ [HA] with HZ
  · isplitr; · iexact HI
    iexact HA
  imod (close_list pb ob K c a L15) $$ [HL] with HL
  · isplitr; · iexact HR
    iexact HL
  imodintro
  isplitl [HZ]; · iexact HZ
  iexact HL

end Cert.Moe

end
-- ==== Proof.Deal.lean ====
/- What the launch deals to the sixteen devices: each cell's position and duty tokens, the tokens then handed from the
   device that owns a cell to the device that pays it, and the credit every device waits on. -/
module

public import proofs.«01_k».proof.Proof.Phases

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regrouping -/

theorem up_dn (c : Dev nD) (r : Fin 15) : up (dn c r.succ) r = c := by revert c r; decide +kernel

/-- The device `r + 1` places on, as a renumbering. -/
def shift (r : Fin 15) : Dev nD ≃ Dev nD := ⟨fun c => up c r, fun c => dn c r.succ, fun c => dn_up c r, fun c => up_dn c r⟩

theorem l15_eq (Φ : Fin 15 → sProp 𝕄) : bigSep Finset.univ Φ = bigSepL L15 Φ := bigSep_univ_eq_bigSepL L15 (by decide) (by decide) Φ

/-- Something for every device and step, dealt to the device that many places back. -/
theorem around (T : Dev nD → Fin 15 → sProp 𝕄) :
    (bigSep Finset.univ fun d : Dev nD => bigSep Finset.univ fun r => T d r) = bigSep Finset.univ fun c : Dev nD => bigSep Finset.univ fun r => T (up c r) r := by
  rw [Pipeline.bigSep_univ_comm, Pipeline.bigSep_univ_comm (fun (c : Dev nD) r => T (up c r) r)]
  exact bigSep_congr fun r _ => bigSep_univ_equiv (shift r) (fun d => T d r)

theorem kinds_eq (Φ : Kd → sProp 𝕄) :
    bigSep Finset.univ Φ = iprop(Φ none ∗ (bigSep Finset.univ fun k => Φ (some (0, k))) ∗ (bigSep Finset.univ fun k => Φ (some (1, k)))
      ∗ (bigSep Finset.univ fun k => Φ (some (2, k))) ∗ (bigSep Finset.univ fun k => Φ (some (3, k)))) := by
  rw [bigSep_univ_split none, show (Finset.univ : Finset Kd).erase none = Finset.univ.map Function.Embedding.some from by decide +kernel,
    bigSep_map, bigSep_univ_prod, bigSep_univ_eq_bigSepL [(0 : Fin 4), 1, 2, 3] (by decide) (by decide)]
  rfl

/-! ## Cells and tokens -/

theorem cell_inj {c d : Dev nD} {κ κ' : Kd} (h : cell c κ = cell d κ') : c = d ∧ κ = κ' :=
  ⟨congrArg (fun g : GSem nD τ sig => g.1.1) h, csem_injective (congrArg Prod.snd h)⟩

def theCells : Finset (GSem nD τ sig) :=
  Finset.univ.map ⟨fun ck : Dev nD × Kd => cell ck.1 ck.2, fun a b h => Prod.ext (cell_inj h).1 (cell_inj h).2⟩

/-- A device's duty tokens: fifteen of its barrier, one of each other cell that is used. -/
def tokOf : Dev nD × Option (Fin 4) × Fin 15 → GSem nD τ sig × ℕ × Fin 15
  | (c, none, s) => (cell c none, 0, s)
  | (c, some a, r) => (cell c (some (a, r.succ)), 0, 0)
theorem tokOf_injective : Function.Injective tokOf := by
  rintro ⟨c, a, r⟩ ⟨d, b, s⟩ h
  cases a <;> cases b
  · obtain ⟨h1, -⟩ := cell_inj (congrArg Prod.fst h)
    have h2 : r = s := congrArg (fun x => x.2.2) h
    rw [h1, h2]
  · exact absurd (cell_inj (congrArg Prod.fst h)).2 (by simp)
  · exact absurd (cell_inj (congrArg Prod.fst h)).2 (by simp)
  · obtain ⟨h1, h2⟩ := cell_inj (congrArg Prod.fst h)
    have h3 := Option.some.inj h2
    rw [Prod.mk.injEq] at h3
    rw [h1, h3.1, Fin.succ_injective _ h3.2]
def theToks : Finset (GSem nD τ sig × ℕ × Fin 15) := Finset.univ.map ⟨tokOf, tokOf_injective⟩

/-- The tokens of a device's own cells; -/
def minted (c : Dev nD) : sProp 𝕄 :=
  iprop((bigSep Finset.univ fun s : Fin 15 => dutyTok ER (cell c none) 0 s)
    ∗ (bigSep Finset.univ fun r : Fin 15 => dutyTok ER (cell c (some (0, r.succ))) 0 0) ∗ (bigSep Finset.univ fun r : Fin 15 => dutyTok ER (cell c (some (1, r.succ))) 0 0)
    ∗ (bigSep Finset.univ fun r : Fin 15 => dutyTok ER (cell c (some (2, r.succ))) 0 0) ∗ (bigSep Finset.univ fun r : Fin 15 => dutyTok ER (cell c (some (3, r.succ))) 0 0))
/-- and those of the duties it pays. -/
def toks (c : Dev nD) : sProp 𝕄 :=
  iprop((bigSepL L15 fun r => dutyTok ER (cell (up c r) none) 0 r.rev)
    ∗ (bigSepL L15 fun r => iprop(dutyTok ER (cell c (some (0, r.succ))) 0 0 ∗ dutyTok ER (cell (up c r) (some (1, r.succ))) 0 0))
    ∗ (bigSepL L15 fun r => iprop(dutyTok ER (cell c (some (2, r.succ))) 0 0 ∗ dutyTok ER (cell (up c r) (some (3, r.succ))) 0 0)))

/-- The tokens go from the owners to the payers. -/
theorem toks_around : (bigSep Finset.univ fun c : Dev nD => (minted c : sProp 𝕄)) ⊢ bigSep Finset.univ fun c : Dev nD => toks c := by
  unfold minted
  rw [bigSep_sep', bigSep_sep', bigSep_sep', bigSep_sep',
    around (fun c r => dutyTok ER (cell c (some (1, r.succ))) 0 0), around (fun c r => dutyTok ER (cell c (some (3, r.succ))) 0 0),
    show (fun d : Dev nD => bigSep Finset.univ fun s : Fin 15 => (dutyTok ER (cell d none) 0 s : sProp 𝕄))
      = (fun d : Dev nD => bigSep Finset.univ fun r : Fin 15 => (dutyTok ER (cell d none) 0 r.rev : sProp 𝕄)) from
        funext fun d => bigSep_univ_equiv Fin.revPerm (fun s => dutyTok ER (cell d none) 0 s),
    around (fun c r => dutyTok ER (cell c none) 0 r.rev), ← bigSep_sep', ← bigSep_sep', ← bigSep_sep', ← bigSep_sep']
  refine bigSep_mono fun c _ => ?_
  simp only [l15_eq]
  show iprop((bigSepL L15 fun r => dutyTok ER (cell (up c r) none) 0 r.rev) ∗ (bigSepL L15 fun r => dutyTok ER (cell c (some (0, r.succ))) 0 0)
    ∗ (bigSepL L15 fun r => dutyTok ER (cell (up c r) (some (1, r.succ))) 0 0) ∗ (bigSepL L15 fun r => dutyTok ER (cell c (some (2, r.succ))) 0 0)
    ∗ bigSepL L15 fun r => dutyTok ER (cell (up c r) (some (3, r.succ))) 0 0) ⊢ (toks c : sProp 𝕄)
  unfold toks
  iintro ⟨H0, H1, H2, H3, H4⟩
  isplitl [H0]; · iexact H0
  isplitl [H1 H2]
  · iapply (zip_in L15 _ _)
    isplitl [H1]; · iexact H1
    iexact H2
  iapply (zip_in L15 _ _)
  isplitl [H3]; · iexact H3
  iexact H4

/-- A device's positions at its cells. -/
def posns (c : Dev nD) : sProp 𝕄 :=
  iprop(atPos ER (cell c none) 0 ∅ 0 ∗ (atPos ER (cell c (some (0, 0))) 0 ∅ 0 ∗ atL c 0 0) ∗ (atPos ER (cell c (some (1, 0))) 0 ∅ 0 ∗ atL c 1 0)
    ∗ (atPos ER (cell c (some (2, 0))) 0 ∅ 0 ∗ atL c 2 0) ∗ (atPos ER (cell c (some (3, 0))) 0 ∅ 0 ∗ atL c 3 0))

theorem posns_eq (c : Dev nD) : (bigSep Finset.univ fun κ : Kd => (atPos ER (cell c κ) 0 ∅ 0 : sProp 𝕄)) = posns c := by
  rw [kinds_eq]
  unfold posns atL
  rw [parts (fun k => atPos ER (cell c (some (0, k))) 0 ∅ 0) (Equiv.refl _), parts (fun k => atPos ER (cell c (some (1, k))) 0 ∅ 0) (Equiv.refl _),
    parts (fun k => atPos ER (cell c (some (2, k))) 0 ∅ 0) (Equiv.refl _), parts (fun k => atPos ER (cell c (some (3, k))) 0 ∅ 0) (Equiv.refl _)]
  rfl

/-! ## The launch credit -/

theorem list_at (ks : List (Fin 15)) (f : Fin 15 → GSem nD τ sig) (n : ℕ) (g : GSem nD τ sig) :
    (ks.map fun r => (tallyAt (f r) () n : CellTallies nD τ sig Unit)).sum g () = (ks.map fun r => if g = f r then n else 0).sum := by
  induction ks with
  | nil => rfl
  | cons r ks ih => rw [List.map_cons, List.sum_cons, Pi.add_apply, Finsupp.add_apply, ih, List.map_cons, List.sum_cons, tallyAt_apply]; simp

theorem sum_list (ks : List (Fin 15)) (h : Dev nD → Fin 15 → ℕ) : ∑ d : Dev nD, (ks.map (h d)).sum = (ks.map fun r => ∑ d : Dev nD, h d r).sum := by
  induction ks with
  | nil => simp
  | cons r ks ih => simp only [List.map_cons, List.sum_cons, Finset.sum_add_distrib, ih]

theorem sum_step (c : Dev nD) (κ κ' : Kd) (r : Fin 15) (n : ℕ) :
    (∑ d : Dev nD, if cell c κ = cell (up d r) κ' then n else 0) = if κ = κ' then n else 0 := by
  by_cases h : κ = κ'
  · subst h
    rw [if_pos rfl, Finset.sum_congr rfl (g := fun d : Dev nD => if d = dn c r.succ then n else 0) fun d _ => ?_, Finset.sum_ite_eq' Finset.univ, if_pos (Finset.mem_univ _)]
    refine if_congr ⟨fun h => ?_, fun h => ?_⟩ rfl rfl
    · rw [(cell_inj h).1, dn_up]
    · rw [h, up_dn]
  · rw [if_neg h]
    exact Finset.sum_eq_zero fun d _ => if_neg fun h' => h (cell_inj h').2

/-- All that is owed to a cell. -/
theorem owed_all (c : Dev nD) (κ : Kd) : ∑ d : Dev nD, O₀ d (cell c κ) ()
    = (L15.map fun _ : Fin 15 => if κ = none then 1 else 0).sum + ((L15.map fun r : Fin 15 => if κ = some (1, r.succ) then NB else 0).sum
      + (L15.map fun r : Fin 15 => if κ = some (3, r.succ) then NC else 0).sum) := by
  unfold O₀ oweA oweB oweC
  simp only [Pi.add_apply, Finsupp.add_apply, list_at, Finset.sum_add_distrib]
  rw [sum_list L15 (fun d r => if cell c κ = cell (up d r) none then 1 else 0), sum_list L15 (fun d r => if cell c κ = cell (up d r) (some (1, r.succ)) then NB else 0),
    sum_list L15 (fun d r => if cell c κ = cell (up d r) (some (3, r.succ)) then NC else 0)]
  simp only [sum_step]

theorem pick (n : ℕ) (r : Fin 15) : (L15.map fun s : Fin 15 => if r = s then n else 0).sum = n := by
  fin_cases r <;> simp

theorem owed_bar (c : Dev nD) : ∑ d : Dev nD, O₀ d (cell c none) () = 15 := by rw [owed_all]; simp
theorem owed_one (c : Dev nD) (r : Fin 15) : ∑ d : Dev nD, O₀ d (cell c (some (1, r.succ))) () = amt 1 := by
  rw [owed_all]
  simp only [Option.some.injEq, Prod.mk.injEq, Fin.succ_inj, true_and, show ¬((1 : Fin 4) = 3) from by decide, false_and, if_false, reduceCtorEq, pick]
  simp; rfl
theorem owed_three (c : Dev nD) (r : Fin 15) : ∑ d : Dev nD, O₀ d (cell c (some (3, r.succ))) () = amt 3 := by
  rw [owed_all]
  simp only [Option.some.injEq, Prod.mk.injEq, Fin.succ_inj, true_and, show ¬((3 : Fin 4) = 1) from by decide, false_and, if_false, reduceCtorEq, pick]
  simp; rfl

theorem launch_of (c : Dev nD) (κ : Kd) (n : ℕ) (h : ∑ d : Dev nD, O₀ d (cell c κ) () = n) :
    tallyOn (cell c κ) (launchCredit (Pipeline.owing O₀) 0 (cell c κ)) = (tallyAt (cell c κ) () n : CellTallies nD τ sig Unit) := by
  unfold tallyAt; refine congrArg _ (Finsupp.ext fun u => ?_); cases u
  rw [Pipeline.launchCredit_owing, Finsupp.single_eq_same, h]

/-- The credit a device waits on. -/
def creds (c : Dev nD) : sProp 𝕄 := iprop(cred (tallyAt (cell c none) () 15) ∗ credL c 1 ∗ credL c 3)

theorem creds_intro (c : Dev nD) : (Pipeline.launchCred O₀ c : sProp 𝕄) ⊢ creds c := by
  have hS : (Finset.univ.map ⟨csem, csem_injective⟩ : Finset (SemLoc sig)) ⊆ Finset.univ := Finset.subset_univ _
  unfold Pipeline.launchCred
  refine (bigSep_subset hS).trans ?_
  rw [bigSep_map]
  refine (Entails.of_eq (kinds_eq (F := F) _)).trans ?_
  unfold creds credL
  iintro ⟨H0, -, H1, -, H3⟩
  isplitl [H0]
  · iapply (Entails.of_eq (congrArg cred (launch_of c none 15 (owed_bar c)))); iexact H0
  isplitl [H1]
  · ihave H := (Entails.of_eq (parts _ (Equiv.refl _))) $$ H1
    icases H with ⟨-, H⟩
    iapply (each_weaken L15 fun r => Entails.of_eq (congrArg cred (launch_of c (some (1, r.succ)) _ (owed_one c r)))); iexact H
  · ihave H := (Entails.of_eq (parts _ (Equiv.refl _))) $$ H3
    icases H with ⟨-, H⟩
    iapply (each_weaken L15 fun r => Entails.of_eq (congrArg cred (launch_of c (some (3, r.succ)) _ (owed_three c r)))); iexact H

end Cert.Moe

end
-- ==== Proof.Body.lean ====
/-
# The body of one device

The values the body computes from its staged inputs, and its run from the resources it is launched with to the result.
-/
module

public import proofs.«01_k».proof.Proof.Deal
public import Idealize.ShloMosaic.Lib.Pipeline.Value

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## The values -/

-- What each device's five staged inputs hold.
variable (X : Dev nD → (cc0_stg0_0 : Ref sig .tc).ty.Contents (Elt F)) (R : Dev nD → (cc0_stg1_0 : Ref sig .tc).ty.Contents (Elt F))
  (T : Dev nD → (cc0_stg2_0 : Ref sig .tc).ty.Contents (Elt F)) (E : Dev nD → (cc0_stg3_0 : Ref sig .tc).ty.Contents (Elt F))
  (S : Dev nD → (cc0_stg4_0 : Ref sig .tc).ty.Contents (Elt F))

/-- The rows device `c` makes for the others, sixteen to a device. -/
def payY (c : Dev nD) : FVec F S256x512 .bf16 :=
  yAll (place c) (X c) (R c) (T c) (X c) (T c) (fun k => (tM.access (tcR k)).read (Elt F) (T c)) (fun k => (eM.access (eR k)).read (Elt F) (E c))

/-- The payload buffer of each device when it is filled. -/
def pbF (c : Dev nD) : (cc0_scratch0 : Ref sig .tc).ty.Contents (Elt F) := payOf (payY X R T E c)

/-- The chunk of the result that device `c` computes. -/
def chunkV (c : Dev nD) : FVec F S64x512 .bf16 :=
  k0_pay99 (k0_pay88 ((xM.access (xcR c)).read (Elt F) (X c)) (S c)) (scAll (place c) ((tM.access (uR c)).read (Elt F) (T c))) (rsOf (pbF X R T E) c)

/-- The result. -/
def obF : (cc0_stg5_0 : Ref sig .tc).ty.Contents (Elt F) := fun i : S1024x512.Idx =>
  chunkV X R T E S (⟨(i 0).val / 64, by have : (i 0).val < 1024 := (i 0).isLt; omega⟩ : Fin 16)
    (ix2 (n0 := 64) (n1 := 512) ⟨(i 0).val % 64, Nat.mod_lt _ (by decide)⟩ (i 1))

/-! ## Loads and stores -/

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f) : (xM : Memref sig .tc .vmem S1024x256 .bf16).view.readAt (Elt F) xR.toLoadRect f = f := Memref.readAt_unit_zero (Elt F) cc0_stg0_0 hz2 _ f
theorem read_r (f) : (rM : Memref sig .tc .vmem S256x64 .bf16).view.readAt (Elt F) rR.toLoadRect f = f := Memref.readAt_unit_zero (Elt F) cc0_stg1_0 hz2 _ f
theorem read_t (f) : (tM : Memref sig .tc .vmem S1024x1 .i32).view.readAt (Elt F) tR.toLoadRect f = f := Memref.readAt_unit_zero (Elt F) cc0_stg2_0 hz2 _ f
theorem read_s (f) : (sM : Memref sig .tc .vmem S256x512 .bf16).view.readAt (Elt F) sR.toLoadRect f = f := Memref.readAt_unit_zero (Elt F) cc0_stg4_0 hz2 _ f
theorem read_b (f) : (bM : Memref sig .tc .vmem S16x16x512 .bf16).view.readAt (Elt F) bR.toLoadRect f = f := Memref.readAt_unit_zero (Elt F) cc0_scratch1 hz3 _ f

theorem ownR_eq (c : Dev nD) : ownR c = slotRect c := unit_congr (off2_eq c)
theorem ocR_eq (c : Dev nD) : ocR c = chunkRect c := unit_congr (off5_eq c)
theorem pay87_eq (v : Vec F S1x16x512 .bf16) : k0_pay87 v = v := shapeCast_shapeCast v _ _

/-- A device's own slot, stored into slot 0 of its landing buffer, is what that buffer is to hold there. -/
theorem own_landed (pb : Dev nD → (cc0_scratch0 : Ref sig .tc).ty.Contents (Elt F)) (c : Dev nD) (f) (i : S16x16x512.Idx) (hi : i ∈ (slotRect 0).set) :
    (bM.access (slotRect 0)).write (Elt F) f (k0_pay87 ((pM.access (ownR c)).read (Elt F) (pb c))) Finset.univ i = rsOf pb c i := by
  rw [pay87_eq]
  have hi' : i ∈ (bM.access (slotRect 0)).set := by
    rw [show (bM.access (slotRect 0)).set = (slotRect 0).set from View.set_slice_whole _ _]; exact hi
  obtain ⟨x, -, rfl⟩ := Finset.mem_map.mp hi'
  refine (View.write_emb_of_mem (v := bM.access (slotRect 0)) _ _ (Finset.mem_univ x)).trans ?_
  show pb c ((ownR c).emb x) = rsOf pb c ((slotRect 0).emb x)
  rw [slot_emb]
  have h : (ownR c).emb x = ix3 c (x 1) (x 2) := by
    have := slot_emb c x
    funext a; refine Fin.ext ?_
    have h0 : (x 0).val = 0 := by have := (x 0).isLt; simp only [S1x16x512] at this; exact Nat.lt_one_iff.mp this
    have ho := off2_eq c
    fin_cases a
    · show k0_off2 c 0 + 1 * (x 0).val = c.val
      rw [ho]; show c.val + 1 * (x 0).val = c.val; omega
    · show k0_off2 c 1 + 1 * (x 1).val = (x 1).val
      rw [ho]; show 0 + 1 * (x 1).val = (x 1).val; omega
    · show k0_off2 c 2 + 1 * (x 2).val = (x 2).val
      rw [ho]; show 0 + 1 * (x 2).val = (x 2).val; omega
  rw [h]
  show _ = pb (dn c 0) (ix3 c _ _)
  rw [dn_zero]; rfl

/-- A device's chunk, stored, is what the result is to hold there. -/
theorem chunk_stored (c : Dev nD) (f) (i : S1024x512.Idx) (hi : i ∈ (chunkRect c).set) :
    (oM.access (ocR c)).write (Elt F) f (chunkV X R T E S c) Finset.univ i = obF X R T E S i := by
  have hi' : i ∈ (oM.access (ocR c)).set := by
    rw [show (oM.access (ocR c)).set = (ocR c).set from View.set_slice_whole _ _, ocR_eq]; exact hi
  obtain ⟨x, -, rfl⟩ := Finset.mem_map.mp hi'
  refine (View.write_emb_of_mem (v := oM.access (ocR c)) _ _ (Finset.mem_univ x)).trans ?_
  show chunkV X R T E S c x = obF X R T E S ((ocR c).emb x)
  have ho := off5_eq c
  have h0 : ((ocR c).emb x 0).val = 64 * c.val + (x 0).val := by
    show k0_off5 c 0 + 1 * (x 0).val = _
    rw [ho, one_mul]; rfl
  have h1 : ((ocR c).emb x 1).val = (x 1).val := by
    show k0_off5 c 1 + 1 * (x 1).val = _
    rw [ho, one_mul]; exact Nat.zero_add _
  have hx : (x 0).val < 64 := (x 0).isLt
  unfold obF
  have e1 : (⟨((ocR c).emb x 0).val / 64, by have : ((ocR c).emb x 0).val < 1024 := ((ocR c).emb x 0).isLt; omega⟩ : Fin 16) = c := by
    refine Fin.ext ?_; show ((ocR c).emb x 0).val / 64 = c.val; rw [h0]; omega
  rw [e1]
  refine congrArg _ (funext fun a => Fin.ext ?_)
  fin_cases a
  · show (x 0).val = ((ocR c).emb x 0).val % 64; rw [h0]; omega
  · exact h1.symm

/-- The payload's rows from the sixteen and the four loads one by one. -/
theorem payY_of (c : Dev nD) (u : Fin 16 → Vec F S64x1 .i32) (hu : u = fun k => (tM.access (tcR k)).read (Elt F) (T c))
    (w : Fin 4 → Vec F S1x256x512 .bf16) (hw : w = fun k => (eM.access (eR k)).read (Elt F) (E c)) :
    yAll (place c) (X c) (R c) (T c) (X c) (T c) u w = payY X R T E c := by
  subst hu hw; rfl

/-! ## The run -/

variable (K : Dev nD × Kd → ℕ)

/-- The five staged inputs. -/
def ins (c : Dev nD) : sProp 𝕄 :=
  iprop(((c : Thread nD τ).loc cc0_stg0_0 ↦{fullShare} X c) ∗ ((c : Thread nD τ).loc cc0_stg1_0 ↦{fullShare} R c) ∗ ((c : Thread nD τ).loc cc0_stg2_0 ↦{fullShare} T c)
    ∗ ((c : Thread nD τ).loc cc0_stg3_0 ↦{fullShare} E c) ∗ ((c : Thread nD τ).loc cc0_stg4_0 ↦{fullShare} S c))

/-- What the body takes, and what it leaves. -/
def bodyIn (c : Dev nD) : sProp 𝕄 :=
  iprop(records (pbF X R T E) (obF X R T E S) K ∗ levAts L lv ∗ (∃ W, owes (c : Thread nD τ) (O₀ c) W) ∗ posns c ∗ toks c ∗ creds c
    ∗ (∃ f, wholeP c f) ∗ (∃ f, wholeB c f) ∗ (∃ f, wholeO c f) ∗ ins X R T E S c)
def bodyOut (c : Dev nD) : sProp 𝕄 :=
  iprop((∃ W, owes (c : Thread nD τ) 0 W) ∗ (∃ f, wholeP c f) ∗ (∃ f, wholeB c f) ∗ wholeO c (obF X R T E S) ∗ ins X R T E S c
    ∗ zeros c 0 ∗ zeros c 1 ∗ zeros c 2 ∗ zeros c 3 ∗ semVal (cell c none) 0)

set_option maxHeartbeats 1600000 in
theorem run_tail (c : Dev nD) (Q : PUnit → sProp 𝕄) :
    iprop(sendBI (pbF X R T E) (obF X R T E S) K c L15 ∗ levAts L lv
        ∗ atPos ER (cell c none) 1 ∅ 0 ∗ (atPos ER (cell c (some (0, 0))) 0 ∅ 0 ∗ atL c 0 0) ∗ (atPos ER (cell c (some (1, 0))) 0 ∅ 0 ∗ atL c 1 0)
        ∗ (atPos ER (cell c (some (2, 0))) 0 ∅ 0 ∗ atL c 2 0) ∗ (atPos ER (cell c (some (3, 0))) 0 ∅ 0 ∗ atL c 3 0)
        ∗ roomB c ∗ roomC c
        ∗ (bigSepL L15 fun r => iprop(dutyTok ER (cell c (some (0, r.succ))) 0 0 ∗ dutyTok ER (cell (up c r) (some (1, r.succ))) 0 0))
        ∗ (bigSepL L15 fun r => iprop(dutyTok ER (cell c (some (2, r.succ))) 0 0 ∗ dutyTok ER (cell (up c r) (some (3, r.succ))) 0 0))
        ∗ credL c 1 ∗ credL c 3 ∗ (∃ f, wholeP c f) ∗ (∃ f, slotB c 0 f) ∗ (∃ f, chunkO c c fullShare f) ∗ ins X R T E S c
        ∗ (bodyOut X R T E S c -∗ Q ⟨⟩))
      ⊢ WP c (tail c (payY X R T E c)) Q := by
  unfold tail ins slotB
  simp only [Prog.lift, Prog.bind_op, Prog.bind_ret, Prog.pure_eq_ret]
  iintro ⟨HI, #HL, HAb, ⟨HA0z, HA0⟩, ⟨HA1z, HA1⟩, ⟨HA2z, HA2⟩, ⟨HA3z, HA3⟩, HrB, HrC, HtB, HtC, HC1, HC3, ⟨%fp, HP⟩, ⟨%fb, HB⟩, ⟨%fo, HO⟩,
    ⟨Hx, Hr, Ht, He, Hs⟩, Hk⟩
  -- the payload, and the transfers of the first phase
  iapply (run_stores c (payY X R T E c) fp)
  isplitl [HP]; · iexact HP
  iintro HP
  iapply (run_sendsB (pbF X R T E) (obF X R T E S) K c)
  isplitl [HI]; · iexact HI
  isplitl [HP]; · iexact HP
  isplitl [HrB]; · iexact HrB
  isplitl [HtB]; · iexact HtB
  iintro ⟨HI, HPc, HC0⟩
  -- a device's own slot
  unfold slotP
  iapply (wp_load_rect 𝒱₀ (c : Thread nD τ) none Set.univ (m := pM) (r := ownR c)
    (by rw [show (pM.access (ownR c)).set = (ownR c).set from View.set_slice_whole _ _, ownR_eq])) $$ HPc; iintro HPc
  iapply (wp_load_rect 𝒱₀ (c : Thread nD τ) none Set.univ (m := bM) (r := slotRect 0)
    (by rw [show (bM.access (slotRect 0)).set = (slotRect 0).set from View.set_slice_whole _ _])) $$ HB; iintro HB
  iapply (wp_store 𝒱₀ (c : Thread nD τ) none Set.univ (m := bM) (r := slotRect 0) (Mk := Finset.univ)
    (by rw [View.setOn_univ, show (bM.access (slotRect 0)).set = (slotRect 0).set from View.set_slice_whole _ _])) $$ HB; iintro HB
  iapply (wp_load_rect 𝒱₀ (c : Thread nD τ) none Set.univ (m := xM) (r := xcR c) (Finset.subset_univ _)) $$ Hx; iintro Hx
  iapply (wp_load 𝒱₀ (c : Thread nD τ) none Set.univ (m := sM) (Finset.subset_univ _)) $$ Hs; iintro Hs
  rw [read_s]
  iapply (wp_load_rect 𝒱₀ (c : Thread nD τ) none Set.univ (m := tM) (r := uR c) (Finset.subset_univ _)) $$ Ht; iintro Ht
  have eB : ((c : Thread nD τ).loc cc0_scratch1 ↦[(slotRect 0).set]{fullShare} ((bM.access (slotRect 0)).write (Elt F) fb
      (k0_pay87 ((pM.access (ownR c)).read (Elt F) (pbF X R T E c))) Finset.univ) : sProp 𝕄) = _ := pointsTo_congr (ℓ := (c : Thread nD τ).loc cc0_scratch1) (q := fullShare) (own_landed (pbF X R T E) c fb)
  ihave HB := (Entails.of_eq eB) $$ HB
  -- what the others sent
  unfold sendBI
  icases HI with ⟨#HR, %W, HO'⟩
  have h0 : oweB c [] + oweC c L15 = oweC c L15 := zero_add _
  rw [h0]
  iapply (run_waitsB (pbF X R T E) (obF X R T E S) K c)
  isplitl [HO']
  · unfold waitI
    isplitr; · iexact HR
    isplitr; · iexact HL
    iexists W; iexact HO'
  isplitl [HC1]; · iexact HC1
  isplitl [HA1]; · iexact HA1
  iintro ⟨HI, HA1, Hpay⟩
  have hw : iprop(((c : Thread nD τ).loc cc0_scratch1 ↦[(slotRect 0).set]{fullShare} rsOf (pbF X R T E) c) ∗ payL (pbF X R T E) (obF X R T E S) c 1)
      ⊢ wholeB c (rsOf (pbF X R T E) c) := by rw [wholeB_succ]; exact .rfl
  ihave HBw := hw $$ [HB Hpay]
  · isplitl [HB] <;> iassumption
  unfold wholeB
  iapply (wp_load 𝒱₀ (c : Thread nD τ) none Set.univ (m := bM) (Finset.subset_univ _)) $$ HBw; iintro HBw
  rw [read_b]
  -- the chunk, and the transfers of the second phase
  unfold chunkO
  iapply (wp_load_rect 𝒱₀ (c : Thread nD τ) none Set.univ (m := oM) (r := ocR c)
    (by rw [show (oM.access (ocR c)).set = (ocR c).set from View.set_slice_whole _ _, ocR_eq])) $$ HO; iintro HO
  iapply (wp_store 𝒱₀ (c : Thread nD τ) none Set.univ (m := oM) (r := ocR c) (Mk := Finset.univ)
    (by rw [View.setOn_univ, show (oM.access (ocR c)).set = (ocR c).set from View.set_slice_whole _ _, ocR_eq])) $$ HO; iintro HO
  have eO : ((c : Thread nD τ).loc cc0_stg5_0 ↦[(chunkRect c).set]{fullShare} ((oM.access (ocR c)).write (Elt F) fo
      (chunkV X R T E S c) Finset.univ) : sProp 𝕄) = _ := pointsTo_congr (ℓ := (c : Thread nD τ).loc cc0_stg5_0) (q := fullShare) (chunk_stored X R T E S c fo)
  unfold chunkV at eO
  ihave HO := (Entails.of_eq eO) $$ HO
  unfold waitI
  icases HI with ⟨-, -, %W', HO'⟩
  iapply (run_sendsC (pbF X R T E) (obF X R T E S) K c)
  isplitl [HO']
  · unfold sendCI
    isplitr; · iexact HR
    iexists W'; iexact HO'
  isplitl [HO]; · unfold chunkO; iexact HO
  isplitl [HrC]; · iexact HrC
  isplitl [HtC]; · iexact HtC
  iintro ⟨HI, HC2⟩
  unfold sendCI
  icases HI with ⟨-, %W'', HO'⟩
  have h1 : oweC c [] = 0 := rfl
  rw [h1]
  -- the waits
  iapply (run_waitsBs (pbF X R T E) (obF X R T E S) K c)
  isplitl [HO']
  · unfold waitI
    isplitr; · iexact HR
    isplitr; · iexact HL
    iexists W''; iexact HO'
  isplitl [HC0]; · unfold credL; iexact HC0
  isplitl [HA0]; · iexact HA0
  iintro ⟨HI, HA0, Hp0⟩
  iapply (run_waitsC (pbF X R T E) (obF X R T E S) K c)
  isplitl [HI]; · iexact HI
  isplitl [HC3]; · iexact HC3
  isplitl [HA3]; · iexact HA3
  iintro ⟨HI, HA3, Hp3⟩
  iapply (run_waitsCs (pbF X R T E) (obF X R T E S) K c)
  isplitl [HI]; · iexact HI
  isplitl [HC2]; · unfold credL; iexact HC2
  isplitl [HA2]; · iexact HA2
  iintro ⟨HI, HA2, Hp2⟩
  -- the cells close
  imod (close_array (pbF X R T E) (obF X R T E S) K c 0) $$ [HA0z HA0] with HZ0
  · isplitr; · iexact HR
    isplitl [HA0z] <;> iassumption
  imod (close_array (pbF X R T E) (obF X R T E S) K c 1) $$ [HA1z HA1] with HZ1
  · isplitr; · iexact HR
    isplitl [HA1z] <;> iassumption
  imod (close_array (pbF X R T E) (obF X R T E S) K c 2) $$ [HA2z HA2] with HZ2
  · isplitr; · iexact HR
    isplitl [HA2z] <;> iassumption
  imod (close_array (pbF X R T E) (obF X R T E S) K c 3) $$ [HA3z HA3] with HZ3
  · isplitr; · iexact HR
    isplitl [HA3z] <;> iassumption
  ihave #HIb := (inv_at (pbF X R T E) (obF X R T E S) K c none) $$ HR
  imod (Rounds.cell_close ER (sched (pbF X R T E) (obF X R T E S)) (Set.mem_univ (K (c, none))) (fun h => h) (R := 1)
    (duties_later (pbF X R T E) (obF X R T E S) (cell c none))) $$ [HAb] with HZb
  · isplitr; · iexact HIb
    iexact HAb
  rw [wp_ret]; imodintro
  iapply Hk
  unfold bodyOut
  have hP : iprop(((c : Thread nD τ).loc cc0_scratch0 ↦[(slotRect c).set]{fullShare} pbF X R T E c) ∗ payL (pbF X R T E) (obF X R T E S) c 0)
      ⊢ wholeP c (pbF X R T E c) := by rw [wholeP_up]; exact .rfl
  have hO : iprop(payL (pbF X R T E) (obF X R T E S) c 2 ∗ payL (pbF X R T E) (obF X R T E S) c 3)
      ⊢ wholeO c (obF X R T E S) := by rw [wholeO_dn, chunk_lent]; exact .rfl
  unfold waitI
  icases HI with ⟨-, -, HI⟩
  isplitl [HI]; · iexact HI
  isplitl [HPc Hp0]
  · iexists _; iapply hP
    isplitl [HPc] <;> iassumption
  isplitl [HBw]; · iexists _; unfold wholeB; iexact HBw
  isplitl [Hp2 Hp3]
  · iapply hO
    isplitl [Hp2] <;> iassumption
  isplitl [Hx Hr Ht He Hs]
  · unfold ins
    isplitl [Hx]; · iexact Hx
    isplitl [Hr]; · iexact Hr
    isplitl [Ht]; · iexact Ht
    isplitl [He] <;> iassumption
  isplitl [HZ0]; · iexact HZ0
  isplitl [HZ1]; · iexact HZ1
  isplitl [HZ2]; · iexact HZ2
  isplitl [HZ3] <;> iassumption

set_option maxHeartbeats 1600000 in
/-- The whole body, from what a device is launched with to the result. -/
theorem run_flat (c : Dev nD) (Q : PUnit → sProp 𝕄) :
    iprop(bodyIn X R T E S K c ∗ (bodyOut X R T E S c -∗ Q ⟨⟩)) ⊢ WP c flat Q := by
  unfold bodyIn posns toks creds ins flat
  simp only [Prog.lift, Prog.bind_op, Prog.bind_ret, Prog.pure_eq_ret, wp_deviceId]
  iintro ⟨⟨#HR, #HL, ⟨%W, HW⟩, ⟨HAb, HA⟩, ⟨Htb, HtB, HtC⟩, ⟨HCb, HC1, HC3⟩, HP, ⟨%fb, HB⟩, ⟨%fo, HO⟩, Hx, Hr, Ht, He, Hs⟩, Hk⟩
  iapply (run_signals (pbF X R T E) (obF X R T E S) K c fb fo)
  isplitl [HW]
  · unfold sigI
    isplitr; · iexact HR
    iexists W; iexact HW
  isplitl [Htb]; · iexact Htb
  isplitl [HB]; · iexact HB
  isplitl [HO]; · iexact HO
  iintro ⟨HI, HB, HO⟩
  iapply (run_barrier (pbF X R T E) (obF X R T E S) K c)
  isplitl [HI]; · iexact HI
  isplitr; · iexact HL
  isplitl [HCb]; · iexact HCb
  isplitl [HAb]; · iexact HAb
  iintro ⟨HI, HAb, HrB, HrC⟩
  -- the loads
  iapply (wp_load 𝒱₀ (c : Thread nD τ) none Set.univ (m := xM) (Finset.subset_univ _)) $$ Hx; iintro Hx
  rw [read_x]
  iapply (wp_load 𝒱₀ (c : Thread nD τ) none Set.univ (m := rM) (Finset.subset_univ _)) $$ Hr; iintro Hr
  rw [read_r]
  iapply (wp_load 𝒱₀ (c : Thread nD τ) none Set.univ (m := tM) (Finset.subset_univ _)) $$ Ht; iintro Ht
  rw [read_t]
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Ht; iintro Ht
  iterate 16
    iapply (wp_load 𝒱₀ (c : Thread nD τ) none Set.univ (m := tM) (Finset.subset_univ _)) $$ Ht; iintro Ht
  iterate 4
    iapply (wp_load 𝒱₀ (c : Thread nD τ) none Set.univ (m := eM) (Finset.subset_univ _)) $$ He; iintro He
  rw [read_x, read_t, payY_of X R T E c]
  rotate_left
  · funext k; fin_cases k <;> rfl
  · funext k; fin_cases k <;> rfl
  iapply (run_tail X R T E S K c Q)
  isplitl [HI]; · iexact HI
  isplitr; · iexact HL
  isplitl [HAb]; · iexact HAb
  icases HA with ⟨HA0, HA1, HA2, HA3⟩
  isplitl [HA0]; · iexact HA0
  isplitl [HA1]; · iexact HA1
  isplitl [HA2]; · iexact HA2
  isplitl [HA3]; · iexact HA3
  isplitl [HrB]; · iexact HrB
  isplitl [HrC]; · iexact HrC
  isplitl [HtB]; · iexact HtB
  isplitl [HtC]; · iexact HtC
  isplitl [HC1]; · iexact HC1
  isplitl [HC3]; · iexact HC3
  isplitl [HP]; · iexact HP
  isplitl [HB]; · iexists fb; iexact HB
  isplitl [HO]; · iexists fo; iexact HO
  isplitl [Hx Hr Ht He Hs]
  · unfold ins
    isplitl [Hx]; · iexact Hx
    isplitl [Hr]; · iexact Hr
    isplitl [Ht]; · iexact Ht
    isplitl [He] <;> iassumption
  iexact Hk

end Cert.Moe

end
-- ==== Proof.Launch.lean ====
/- The run of the whole mesh, for any float values: from any memory with zero counters every device ends with the result
   `obF` in its result array, its arguments as they were, and every semaphore counter at zero. -/
module

public import proofs.«01_k».proof.Proof.Body
public import proofs.«01_k».proof.Proof.Gen.KernelIdeal.Points
public import Idealize.ShloMosaic.Lib.Pipeline.CollectiveSegs
public import Idealize.ShloMosaic.Lib.Pipeline.Value
public import Idealize.ShloMosaic.Lib.Quiescent

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## What the pipeline stages -/

def stX (c : Dev nD) : (cc0_stg0_0 : Ref sig .tc).ty.Contents (Elt F) := (win0_0.blk t0_0).view.read (Elt F) (m ((c : Thread nD τ).loc main_arg0))
def stR (c : Dev nD) : (cc0_stg1_0 : Ref sig .tc).ty.Contents (Elt F) := (win0_1.blk t0_0).view.read (Elt F) (m ((c : Thread nD τ).loc main_arg1))
def stT (c : Dev nD) : (cc0_stg2_0 : Ref sig .tc).ty.Contents (Elt F) := (win0_2.blk t0_0).view.read (Elt F) (m ((c : Thread nD τ).loc main_arg2))
def stE (c : Dev nD) : (cc0_stg3_0 : Ref sig .tc).ty.Contents (Elt F) := (win0_3.blk t0_0).view.read (Elt F) (m ((c : Thread nD τ).loc main_arg3))
def stS (c : Dev nD) : (cc0_stg4_0 : Ref sig .tc).ty.Contents (Elt F) := (win0_4.blk t0_0).view.read (Elt F) (m ((c : Thread nD τ).loc main_arg4))

/-- What the devices exchange, and the result, of the memory at launch. -/
abbrev pbM (c : Dev nD) : (cc0_scratch0 : Ref sig .tc).ty.Contents (Elt F) := pbF (stX m) (stR m) (stT m) (stE m) c
abbrev obM : (cc0_stg5_0 : Ref sig .tc).ty.Contents (Elt F) := obF (stX m) (stR m) (stT m) (stE m) (stS m)

/-! ## The proof data -/

/-- A device's cells, positions and the duties it pays. -/
def ghost (c : Dev nD) : sProp 𝕄 := iprop(∃ K, records (pbM m) (obM m) K ∗ posns c ∗ toks c)
def start (c : Dev nD) : sProp 𝕄 := iprop(ghost m c ∗ creds c ∗ levAts L lv)
def scratch (c : Dev nD) : sProp 𝕄 := iprop((∃ f, wholeP c f) ∗ (∃ f, wholeB c f))
def ends (c : Dev nD) : sProp 𝕄 := iprop(zeros c 0 ∗ zeros c 1 ∗ zeros c 2 ∗ zeros c 3 ∗ semVal (cell c none) 0)

def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stR m c
    | ⟨2, _⟩ => stT m c
    | ⟨3, _⟩ => stE m c
    | ⟨4, _⟩ => stS m c
    | ⟨5, _⟩ => obM m
  Φ t := match t with
    | ⟨0, _⟩ => iprop(start m c ∗ scratch c)
    | ⟨_ + 1, _⟩ => iprop(scratch c ∗ ends c)
  q _ := fullShare
  owed t := match t with
    | ⟨0, _⟩ => O₀ c
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  unfold owns
  simp only [Memref.view_whole, View.read_whole, View.set_whole]
  have h1 : iprop(∃ f : Buf (Elt F) ((c : Thread nD τ).loc b), ⌜f = X⌝ ∗ (((c : Thread nD τ).loc b) ↦{fullShare} f)) ⊢ (((c : Thread nD τ).loc b) ↦{fullShare} X : sProp 𝕄) := by
    iintro ⟨%f, %h, H⟩; rw [← h]; iexact H
  have h2 : (((c : Thread nD τ).loc b) ↦{fullShare} X : sProp 𝕄) ⊢ iprop(∃ f : Buf (Elt F) ((c : Thread nD τ).loc b), ⌜f = X⌝ ∗ (((c : Thread nD τ).loc b) ↦{fullShare} f)) := by
    iintro H; iexists X; isplitr; · ipureintro; rfl
    iexact H
  exact Entails.antisymm h1 h2

/-- What the body finds and leaves, window by window. -/
def bodyPre (c : Dev nD) : sProp 𝕄 :=
  iprop((start m c ∗ scratch c) ∗ (dats m 0 c).owesAt () t0_0.castSucc
    ∗ (∃ d, (c : Thread nD τ).loc cc0_stg0_0 ↦{fullShare} (dats m 0 c).before (0 : Fin 6) t0_0 d)
    ∗ (∃ d, (c : Thread nD τ).loc cc0_stg1_0 ↦{fullShare} (dats m 0 c).before (1 : Fin 6) t0_0 d)
    ∗ (∃ d, (c : Thread nD τ).loc cc0_stg2_0 ↦{fullShare} (dats m 0 c).before (2 : Fin 6) t0_0 d)
    ∗ (∃ d, (c : Thread nD τ).loc cc0_stg3_0 ↦{fullShare} (dats m 0 c).before (3 : Fin 6) t0_0 d)
    ∗ (∃ d, (c : Thread nD τ).loc cc0_stg4_0 ↦{fullShare} (dats m 0 c).before (4 : Fin 6) t0_0 d)
    ∗ (∃ d, (c : Thread nD τ).loc cc0_stg5_0 ↦{fullShare} (dats m 0 c).before (5 : Fin 6) t0_0 d))
def bodyPost (c : Dev nD) : sProp 𝕄 :=
  iprop((scratch c ∗ ends c) ∗ (dats m 0 c).owesAt () t0_0.succ
    ∗ ((c : Thread nD τ).loc cc0_stg0_0 ↦{fullShare} stX m c) ∗ ((c : Thread nD τ).loc cc0_stg1_0 ↦{fullShare} stR m c)
    ∗ ((c : Thread nD τ).loc cc0_stg2_0 ↦{fullShare} stT m c) ∗ ((c : Thread nD τ).loc cc0_stg3_0 ↦{fullShare} stE m c)
    ∗ ((c : Thread nD τ).loc cc0_stg4_0 ↦{fullShare} stS m c) ∗ ((c : Thread nD τ).loc cc0_stg5_0 ↦{fullShare} obM m))

theorem before_0 (c : Dev nD) (d) : (dats m 0 c).before (0 : Fin 6) t0_0 d = stX m c := by unfold Dat.before; rw [if_pos (fetch0_0 _)]; rfl
theorem before_1 (c : Dev nD) (d) : (dats m 0 c).before (1 : Fin 6) t0_0 d = stR m c := by unfold Dat.before; rw [if_pos (fetch0_1 _)]; rfl
theorem before_2 (c : Dev nD) (d) : (dats m 0 c).before (2 : Fin 6) t0_0 d = stT m c := by unfold Dat.before; rw [if_pos (fetch0_2 _)]; rfl
theorem before_3 (c : Dev nD) (d) : (dats m 0 c).before (3 : Fin 6) t0_0 d = stE m c := by unfold Dat.before; rw [if_pos (fetch0_3 _)]; rfl
theorem before_4 (c : Dev nD) (d) : (dats m 0 c).before (4 : Fin 6) t0_0 d = stS m c := by unfold Dat.before; rw [if_pos (fetch0_4 _)]; rfl

theorem sound_body (c : Dev nD) : bodyPre m c ⊢ WP c flat (fun _ => bodyPost m c) := by
  unfold bodyPre start ghost scratch Dat.owesAt Pipeline.owesWithin
  rw [show (dats m 0 c).owed t0_0.castSucc = O₀ c from rfl]
  simp only [before_0, before_1, before_2, before_3, before_4]
  iintro ⟨⟨⟨⟨%K, HR, HA, HT⟩, HC, HL⟩, HP, HB⟩, ⟨%W, %hW, HW⟩, ⟨%d0, H0⟩, ⟨%d1, H1⟩, ⟨%d2, H2⟩, ⟨%d3, H3⟩, ⟨%d4, H4⟩, ⟨%d5, H5⟩⟩
  iapply (run_flat (stX m) (stR m) (stT m) (stE m) (stS m) K c fun _ => bodyPost m c)
  isplitr []
  · unfold bodyIn ins
    isplitl [HR]; · iexact HR
    isplitl [HL]; · iexact HL
    isplitl [HW]; · iexists W; iexact HW
    isplitl [HA]; · iexact HA
    isplitl [HT]; · iexact HT
    isplitl [HC]; · iexact HC
    isplitl [HP]; · iexact HP
    isplitl [HB]; · iexact HB
    isplitl [H5]
    · unfold wholeO
      iexists _
      iexact H5
    isplitl [H0]; · iexact H0
    isplitl [H1]; · iexact H1
    isplitl [H2]; · iexact H2
    isplitl [H3]; · iexact H3
    iexact H4
  · unfold bodyOut ins bodyPost scratch ends Dat.owesAt Pipeline.owesWithin
    rw [show (dats m 0 c).owed t0_0.succ = 0 from rfl]
    iintro ⟨⟨%W', HW⟩, HP, HB, HO, ⟨H0, H1, H2, H3, H4⟩, HZ⟩
    isplitl [HP HB HZ]
    · isplitl [HP HB]
      · isplitl [HP]; · iexact HP
        iexact HB
      iexact HZ
    isplitl [HW]
    · iexists W'
      isplitr; · ipureintro; exact fun _ _ => Or.inl trivial
      iexact HW
    isplitl [H0]; · iexact H0
    isplitl [H1]; · iexact H1
    isplitl [H2]; · iexact H2
    isplitl [H3]; · iexact H3
    isplitl [H4]; · iexact H4
    unfold wholeO; iexact HO

set_option maxRecDepth 100000 in
/-- The pipeline's body, on every device. -/
theorem body_obligation (c : Dev nD) : BodyObligation (dats (F := F) m 0 c) (defs₀ (F := F)) 𝒱₀ () Set.univ := fun t => by
  rw [show t = t0_0 from fin_N0 t]
  rw [show (∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6))) from bigSep_W0,
    show (∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6))) from bigSep_W0]
  simp only [owns_eq]
  have h : bodyPre m c ⊢ WP c flat (fun _ => bodyPost m c) := sound_body m c
  rw [← body_eq] at h
  exact h

/-! ## The launch -/

/-- The kernel's own semaphores. -/
abbrev osem : Fin 4 × Fin 16 → SemLoc sig := fun ak => csem (some ak)

theorem ownSemFacts : Pipeline.OwnSemFacts cfg0.spec osem := by decide +kernel

theorem share_eq (c : Dev nD) (w : Fin cfg0.W) : (dats m 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0
  rw [bigSep_univ_prod, bigSep_univ_eq_bigSepL [(0 : Fin 4), 1, 2, 3] (by decide) (by decide)]
  rfl
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

def u₀ : UU :=
  (initOf (Pipeline.cells cfgs cellOf_inj) (Pipeline.launchToks cfgs cellOf_inj), initOf theCells theToks)

/-- What each device is dealt. -/
def deal (c : Dev nD) : sProp 𝕄 :=
  iprop((bigSep Finset.univ fun κ : Kd => roundState ER (sched (pbM m) (obM m)) (cell c κ) 0)
    ∗ (bigSep Finset.univ fun κ : Kd => iprop(atPos ER (cell c κ) 0 ∅ 0 ∗ reached ER (cell c κ) 0)) ∗ minted c)

theorem fund : BI.own (ER (initOf theCells theToks)) ⊢ (|==> bigSep Finset.univ (deal m) : sProp 𝕄) := by
  have hX (Φ : GSem nD τ sig → sProp 𝕄) : bigSep theCells Φ = bigSep Finset.univ fun c : Dev nD => bigSep Finset.univ fun κ : Kd => Φ (cell c κ) := by
    unfold theCells; rw [bigSep_map, bigSep_univ_prod]; rfl
  have hT : bigSep theToks (fun x => (dutyTok ER x.1 x.2.1 x.2.2 : sProp 𝕄)) = bigSep Finset.univ fun c : Dev nD => minted c := by
    unfold theToks; rw [bigSep_map, bigSep_univ_prod]
    refine bigSep_congr fun c _ => ?_
    rw [bigSep_univ_prod, bigSep_univ_eq_bigSepL [(none : Option (Fin 4)), some 0, some 1, some 2, some 3] (by decide) (by decide)]
    rfl
  iintro HX
  imod (Rounds.fund ER (sched (pbM m) (obM m)) theCells theToks) $$ HX with ⟨Hst, Hr, Hat, Htok⟩
  imodintro
  ihave Hst' := (Entails.of_eq (hX fun g => roundState ER (sched (pbM m) (obM m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun κ : Kd => semVal (cell c κ) 0 : sProp 𝕄) := by
  rw [ownSems0_eq, unscopedSems0_eq, kinds_eq]
  unfold zeros
  iintro ⟨H, HB⟩
  isplitl [HB]; · iexact HB
  iexact H

/-- A device's cells are set up under names of their own. -/
theorem setup (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun κ => iprop(∃ n : ℕ, cellInv ER (sched (pbM m) (obM m)) n (cell c κ)))
          ∗ (bigSep Finset.univ fun κ => iprop(atPos ER (cell c κ) 0 ∅ 0 ∗ reached ER (cell c κ) 0)) ∗ minted c) := by
  unfold deal
  iintro ⟨Hos, Hus, Hst, Hat, Htok⟩
  ihave Hv := (sems_eq (F := F) c) $$ [Hos Hus]
  · isplitl [Hos] <;> iassumption
  imod (show iprop((bigSep Finset.univ fun κ : Kd => semVal (cell c κ) 0) ∗ bigSep Finset.univ fun κ : Kd => roundState ER (sched (pbM m) (obM m)) (cell c κ) 0)
      ⊢ (|={Set.univ}=> bigSep Finset.univ fun κ => iprop(∃ n : ℕ, cellInv ER (sched (pbM m) (obM m)) n (cell c κ)) : sProp 𝕄) from by
        rw [← bigSep_sep']
        exact (bigSep_mono fun κ _ => (Rounds.body_intro ER (sched (pbM m) (obM m)) (cell c κ)).trans inv_alloc).trans (bigSep_fupd _ _)) $$ [Hv Hst] with Hinv
  · isplitl [Hv] <;> iassumption
  imodintro
  isplitl [Hinv]; · iexact Hinv
  isplitl [Hat]; · iexact Hat
  iexact Htok

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out :
    (bigSep Finset.univ fun c : Dev nD => iprop((bigSep Finset.univ fun κ => iprop(∃ n : ℕ, cellInv ER (sched (pbM m) (obM m)) n (cell c κ)))
          ∗ (bigSep Finset.univ fun κ => iprop(atPos ER (cell c κ) 0 ∅ 0 ∗ reached ER (cell c κ) 0)) ∗ minted c) : sProp 𝕄)
      ⊢ bigSep Finset.univ (ghost m) := by
  rw [bigSep_sep', bigSep_sep', ← bigSep_univ_prod (fun ck : Dev nD × Kd => iprop(∃ n : ℕ, cellInv ER (sched (pbM m) (obM m)) n (cell ck.1 ck.2))),
    bigSep_congr (s := Finset.univ) (fun (c : Dev nD) _ => bigSep_sep' Finset.univ (fun κ : Kd => (atPos ER (cell c κ) 0 ∅ 0 : sProp 𝕄)) (fun κ => reached ER (cell c κ) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (n : ℕ) => (cellInv ER (sched (pbM m) (obM m)) n (cell ck.1 ck.2) : sProp 𝕄))) $$ HI
  icases HK with ⟨%K, #HI⟩
  ihave Htk := (toks_around (F := F)) $$ Htok
  iapply (each_with (R := records (pbM m) (obM m) K) (Φ := fun c : Dev nD => iprop(posns c ∗ toks c)) fun c _ => by
    unfold ghost
    iintro ⟨HR, HA, HT⟩
    iexists K
    isplitl [HR]; · iexact HR
    isplitl [HA]; · iexact HA
    iexact HT)
  isplitr
  · unfold records; isplitl; · iexact HI
    iexact HR
  · rw [bigSep_sep']
    isplitl [Hat]
    · iapply (Entails.of_eq (bigSep_congr fun c _ => posns_eq c)); iexact Hat
    iexact Htk

theorem glob : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (ghost m) :=
  ((bigSep_mono fun c _ => setup m c).trans (bigSep_fupd _ _)).trans (BI.fupd_mono (share_out m))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch wholeP wholeB
  iintro ⟨Hs, -, H⟩
  isplitl [Hs]; · iexact Hs
  iexact H

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ ends c) from rfl, scopedRest0_eq, ownSems0_eq, unscopedSems0_eq]
  unfold scratch ends wholeP wholeB
  iintro ⟨Hs, H0, H1, H2, H3, HB⟩
  isplitl [HB]; · iexact HB
  isplitl [H0 H1 H2 H3]
  · isplitl [H0]; · iexact H0
    isplitl [H1]; · iexact H1
    isplitl [H2]; · iexact H2
    iexact H3
  iexact Hs

/-- The pipeline's own semaphores lie below everything a device owes. -/
theorem stage_level (w : Fin 6) (s : Fin (cfg0.win w).nbuf) : lvK (kindOf (.dma ((cfg0.win w).sem s))) ≤ 0 := by
  have h : kindOf (.dma ((cfg0.win w).sem s)) = none := by
    unfold kindOf Function.partialInv
    rw [dif_neg]
    rintro ⟨κ, hκ⟩
    cases κ with
    | none => exact absurd hκ (by unfold csem; exact nofun)
    | some ak => exact ownSemFacts.disj ak w s hκ
  rw [h]; decide

theorem waits (c : Dev nD) : (levAts L lv : sProp 𝕄) ⊢ Pipeline.cellsWaits cfgs (dats m) () 0 c :=
  Pipeline.cellsWaits_intro cfgs (dats m) () 0 c fun w s t =>
    mayWait_of c _ 0 (stage_level w s) _ (by
      rcases t with ⟨_ | _, ht⟩
      · exact fun g u h => O₀_pos h
      · exact fun g u h => absurd h (Nat.lt_irrefl 0))

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- From any memory with zero counters, for any float values: every fair run of the sixteen devices terminates, each
    window's array then at the contents the pipeline leaves there, every semaphore counter at zero. -/
theorem run_windows : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Its memory -/

theorem zero_step (n k : ℕ) : 0 * n + 1 * k = k := by omega

theorem stX_eq (c : Dev nD) : stX m c = m ((c : Thread nD τ).loc main_arg0) :=
  funext fun i => congrArg (m ((c : Thread nD τ).loc main_arg0)) (funext fun a => Fin.ext (zero_step (S1024x256.size a) (i a).val))
theorem stR_eq (c : Dev nD) : stR m c = m ((c : Thread nD τ).loc main_arg1) :=
  funext fun i => congrArg (m ((c : Thread nD τ).loc main_arg1)) (funext fun a => Fin.ext (zero_step (S256x64.size a) (i a).val))
theorem stT_eq (c : Dev nD) : stT m c = m ((c : Thread nD τ).loc main_arg2) :=
  funext fun i => congrArg (m ((c : Thread nD τ).loc main_arg2)) (funext fun a => Fin.ext (zero_step (S1024x1.size a) (i a).val))
theorem stE_eq (c : Dev nD) : stE m c = m ((c : Thread nD τ).loc main_arg3) :=
  funext fun i => congrArg (m ((c : Thread nD τ).loc main_arg3)) (funext fun a => Fin.ext (zero_step (S4x256x512.size a) (i a).val))
theorem stS_eq (c : Dev nD) : stS m c = m ((c : Thread nD τ).loc main_arg4) :=
  funext fun i => congrArg (m ((c : Thread nD τ).loc main_arg4)) (funext fun a => Fin.ext (zero_step (S256x512.size a) (i a).val))

theorem emb_out (i : S1024x512.Idx) : (win0_5.blk t0_0).view.emb i = i := funext fun a => Fin.ext (zero_step (S1024x512.size a) (i a).val)

theorem result_eq (c : Dev nD) : (dats m 0 c).arrAt (5 : Fin 6) cfg0.N = obM m :=
  (dats m 0 c).arrAt_eq_of_cover (5 : Fin 6) (obM m)
    (fun t _ => by
      rw [show t = t0_0 from fin_N0 t]
      funext i
      show obM m i = obM m ((win0_5.blk t0_0).view.emb i)
      rw [emb_out])
    (fun i => ⟨t0_0, flush0_5 _, by
      have h := (win0_5.blk t0_0).view.emb_mem_set (i : S1024x512.Idx)
      rw [emb_out] at h
      exact h⟩)

/-- Every device ends with the result in its result array and its arguments as they were, every semaphore counter zero. -/
theorem run_main : θ_run defs (onTc (τ := τ) (main (F := F))) (s₀ m ρ) (fun r =>
    (∀ c : Dev nD, r.2.mem ((c : Thread nD τ).loc main_v1) = obM m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => ⟨(h.1 c (5 : Fin 6)).trans (result_eq m c),
    (h.1 c (0 : Fin 6)).trans ((dats m 0 c).arrAt_in (0 : Fin 6) rfl _), (h.1 c (1 : Fin 6)).trans ((dats m 0 c).arrAt_in (1 : Fin 6) rfl _),
    (h.1 c (2 : Fin 6)).trans ((dats m 0 c).arrAt_in (2 : Fin 6) rfl _), (h.1 c (3 : Fin 6)).trans ((dats m 0 c).arrAt_in (3 : Fin 6) rfl _),
    (h.1 c (4 : Fin 6)).trans ((dats m 0 c).arrAt_in (4 : Fin 6) rfl _)⟩, h.2⟩) (run_windows m ρ)

end Cert.Moe

end
-- ==== Proof.Frames.lean ====
/- The claims that every run ends with its arguments as they were and every semaphore counter at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_within_capacity_KernelIdeal
public import proofs.«01_k».proof.Proof.Gen.Pre_within_capacity_ReferenceIdeal
public import Idealize.ShloMosaic.Lib.Quiescent

@[expose] public section

noncomputable section

namespace Cert.Moe

open Idealize.ShloMosaic Idealize.SL.Sem

open Cert.KernelIdeal in
/-- The kernel over any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

/-! The two printed programs are one text. -/

set_option maxRecDepth 100000 in
theorem body_same {F : FTy → Type} [FloatOps F] : @Cert.Kernel.cc0_body F _ _ = @Cert.KernelIdeal.cc0_body F _ _ := rfl
theorem table_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    show Cert.Kernel.cc0_body _ _ _ _ _ _ _ _ _ _ _ _ _ _ _ _ _ _ _ _ = Cert.KernelIdeal.cc0_body _ _ _ _ _ _ _ _ _ _ _ _ _ _ _ _ _ _ _ _
    rw [body_same]
  | ⟨_ + 1, h⟩, _ => exact absurd h (Nat.not_lt.2 (Nat.le_add_left _ _))
theorem defs_same {F : FTy → Type} [FloatOps F] : Cert.Kernel.defs (F := F) = Cert.KernelIdeal.defs (F := F) := by
  unfold Cert.Kernel.defs Cert.KernelIdeal.defs
  rw [table_same]
  rfl

/-- The kernel as run. -/
theorem frame_kernel : Cert.quiescent_Kernel := fun m ρ _ => by
  rw [defs_same]
  exact frame_any (F := Bits) m ρ

/-- The kernel over exact values. -/
theorem frame_ideal : Cert.quiescent_KernelIdeal := fun m ρ _ => frame_any (F := Ideal) m ρ

theorem frame_ideal_pre : Cert.quiescent_KernelIdeal_pre_within_capacity_KernelIdeal := fun m ρ _ => frame_ideal m ρ trivial

/-- The reference. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_reference_pre : Cert.quiescent_ReferenceIdeal_pre_within_capacity_ReferenceIdeal := fun m ρ _ => frame_reference m ρ trivial

end Cert.Moe

end
-- ==== Proof.Words.lean ====
/-
# The words the body computes

The owner of an expert, the slot of a packed row and the comparison of two small numbers, as the words the body computes
of them, and what those words are.
-/
module

public import proofs.«01_k».proof.Proof.Flat
public import Idealize.ShloMosaic.Lib.Pointwise

@[expose] public section

noncomputable section

namespace Cert.Moe

open Cert.KernelIdeal Cert.KernelIdeal.Gen
open Idealize.ShloMosaic

/-- The word of a natural number. -/
abbrev W (n : ℕ) : BitVec 32 := BitVec.ofNat 32 n

/-- The quotient by four rounded down, as the body computes it: the device that owns expert `r`. -/
def ownW (r : BitVec 32) : BitVec 32 :=
  Scalar.select
    (IntOp.andi
      (IntOp.cmpi .ne (IntOp.subi (BitVec.setWidth 32 (IntOp.cmpi .sgt r 0#32)) (BitVec.setWidth 32 (IntOp.cmpi .slt r 0#32)))
        (Scalar.subi (Scalar.extui (Scalar.cmpi .sgt 4#32 0#32)) (Scalar.extui (Scalar.cmpi .slt 4#32 0#32))))
      (IntOp.cmpi .ne (IntOp.remsi .vector r 4#32) 0#32))
    (IntOp.subi (IntOp.divsi .vector r 4#32) 1#32) (IntOp.divsi .vector r 4#32)

/-- The quotient of `j` by sixteen rounded down, as the body computes it. -/
def divW (j : BitVec 32) : BitVec 32 :=
  Scalar.select
    (IntOp.andi
      (IntOp.cmpi .ne (IntOp.subi (BitVec.setWidth 32 (IntOp.cmpi .sgt j 0#32)) (BitVec.setWidth 32 (IntOp.cmpi .slt j 0#32)))
        (Scalar.subi (Scalar.extui (Scalar.cmpi .sgt 16#32 0#32)) (Scalar.extui (Scalar.cmpi .slt 16#32 0#32))))
      (IntOp.cmpi .ne (IntOp.remsi .vector j 16#32) 0#32))
    (IntOp.subi (IntOp.divsi .vector j 16#32) 1#32) (IntOp.divsi .vector j 16#32)

/-- The remainder of `j` by sixteen, as the body computes it. -/
def modW (j : BitVec 32) : BitVec 32 :=
  Scalar.select
    (IntOp.andi
      (IntOp.xori (IntOp.cmpi .slt (IntOp.remsi .vector j (Scalar.select (Scalar.cmpi .eq 16#32 0#32) 1#32 16#32)) 0#32)
        (Scalar.cmpi .slt (Scalar.select (Scalar.cmpi .eq 16#32 0#32) 1#32 16#32) 0#32))
      (IntOp.cmpi .ne (IntOp.remsi .vector j (Scalar.select (Scalar.cmpi .eq 16#32 0#32) 1#32 16#32)) 0#32))
    (IntOp.addi (IntOp.remsi .vector j (Scalar.select (Scalar.cmpi .eq 16#32 0#32) 1#32 16#32))
      (Scalar.select (Scalar.cmpi .eq 16#32 0#32) 1#32 16#32))
    (IntOp.remsi .vector j (Scalar.select (Scalar.cmpi .eq 16#32 0#32) 1#32 16#32))

/-- One where two words agree and zero where they differ, as the body computes it. -/
def hitW (a b : BitVec 32) : BitVec 32 := IntOp.subi 1#32 (IntOp.minsi (IntOp.absi (IntOp.subi a b)) 1#32)

/-- How far up the mesh from the owner of expert `r` the device `p` lies, as the body computes it. -/
def farW (p r : BitVec 32) : BitVec 32 := IntOp.remsi .vector (IntOp.addi (IntOp.subi p (ownW r)) 16#32) 16#32

/-- A comparison's bit as a word. -/
def bitW (b : BitVec 1) : BitVec 32 := BitVec.setWidth 32 b

theorem ownW_eq {a : ℕ} (h : a < 64) : ownW (W a) = W (a / 4) := by
  have : ∀ a : Fin 64, ownW (W a.val) = W (a.val / 4) := by decide +kernel
  exact this ⟨a, h⟩

theorem divW_eq {j : ℕ} (h : j < 256) : divW (W j) = W (j / 16) := by
  have : ∀ j : Fin 256, divW (W j.val) = W (j.val / 16) := by decide +kernel
  exact this ⟨j, h⟩

theorem modW_eq {j : ℕ} (h : j < 256) : modW (W j) = W (j % 16) := by
  have : ∀ j : Fin 256, modW (W j.val) = W (j.val % 16) := by decide +kernel
  exact this ⟨j, h⟩

theorem farW_eq {c a : ℕ} (hc : c < 16) (ha : a < 64) : farW (W c) (W a) = W ((c + 16 - a / 4) % 16) := by
  have : ∀ c : Fin 16, ∀ b : Fin 16, IntOp.remsi .vector (IntOp.addi (IntOp.subi (W c.val) (W b.val)) 16#32) 16#32
      = W ((c.val + 16 - b.val) % 16) := by decide +kernel
  unfold farW
  rw [ownW_eq ha]
  exact this ⟨c, hc⟩ ⟨a / 4, by omega⟩

theorem hitW_eq {a b : ℕ} (ha : a < 64) (hb : b < 64) : hitW (W a) (W b) = W (if a = b then 1 else 0) := by
  have : ∀ a b : Fin 64, hitW (W a.val) (W b.val) = W (if a.val = b.val then 1 else 0) := by decide +kernel
  exact this ⟨a, ha⟩ ⟨b, hb⟩

theorem place_eq (c : Dev nD) : place c = W c.val := by
  have : ∀ c : Fin 16, place c = W c.val := by decide +kernel
  exact this c

theorem bitW_ofBool (P : Prop) [Decidable P] : bitW (BitVec.ofBool (decide P)) = W (if P then 1 else 0) := by
  unfold bitW
  by_cases h : P <;> simp [h] <;> rfl

theorem W_inj {a b : ℕ} (ha : a < 2 ^ 31) (hb : b < 2 ^ 31) : W a = W b ↔ a = b := by
  constructor
  · intro h
    have := congrArg BitVec.toNat h
    simp only [W, BitVec.toNat_ofNat] at this
    omega
  · rintro rfl; rfl

theorem toInt_W {a : ℕ} (ha : a < 2 ^ 31) : (W a).toInt = (a : ℤ) := by
  rw [BitVec.toInt_eq_toNat_cond, BitVec.toNat_ofNat, if_pos (by omega)]
  omega

theorem eq_W {a b : ℕ} (ha : a < 2 ^ 31) (hb : b < 2 ^ 31) : bitW (IntOp.cmpi .eq (W a) (W b)) = W (if a = b then 1 else 0) := by
  rw [← bitW_ofBool]
  refine congrArg bitW ?_
  show BitVec.ofBool (W a == W b) = _
  congr 1
  rw [Bool.eq_iff_iff, beq_iff_eq, decide_eq_true_iff, W_inj ha hb]

theorem sle_W {a b : ℕ} (ha : a < 2 ^ 31) (hb : b < 2 ^ 31) : bitW (IntOp.cmpi .sle (W a) (W b)) = W (if a ≤ b then 1 else 0) := by
  rw [← bitW_ofBool]
  refine congrArg bitW ?_
  show BitVec.ofBool ((W a).sle (W b)) = _
  congr 1
  rw [Bool.eq_iff_iff, decide_eq_true_iff, BitVec.sle_iff_toInt_le, toInt_W ha, toInt_W hb]
  omega

theorem sgt_W {a b : ℕ} (ha : a < 2 ^ 31) (hb : b < 2 ^ 31) : bitW (IntOp.cmpi .sgt (W a) (W b)) = W (if b < a then 1 else 0) := by
  rw [← bitW_ofBool]
  refine congrArg bitW ?_
  show BitVec.ofBool ((W b).slt (W a)) = _
  congr 1
  rw [Bool.eq_iff_iff, decide_eq_true_iff, BitVec.slt_iff_toInt_lt, toInt_W ha, toInt_W hb]
  omega

/-! ## Words as ideal floats -/

theorem sitofp_W (φ : FTy) {a : ℕ} (ha : a < 2 ^ 31) : (FloatOps.sitofp φ (W a) : Ideal φ) = ((a : ℝ) : EReal) := by
  show (((W a).toInt : ℝ) : EReal) = _
  rw [toInt_W ha]; norm_num

theorem fptosi_nat {φ : FTy} {a : ℕ} (ha : a < 2 ^ 31) : FloatOps.fptosi (F := Ideal) (φ := φ) 32 ((a : ℝ) : EReal) = W a := by
  show Ideal.fptosi 32 ((a : ℝ) : EReal) = _
  rw [Ideal.fptosi, Ideal.toIntClamped_coe, if_pos (by positivity), Int.floor_natCast]
  have : max (-((2 ^ (32 - 1) : ℕ) : ℤ)) (min (((2 ^ (32 - 1) : ℕ) : ℤ) - 1) ((a : ℕ) : ℤ)) = (a : ℤ) := by omega
  rw [this]
  exact BitVec.ofInt_natCast 32 a

/-- A sum of ones and zeros is the number of the ones. -/
theorem sum_one {ι : Type} (S : Finset ι) (P : ι → Prop) [DecidablePred P] :
    (∑ k ∈ S, if P k then (1 : EReal) else 0) = (((S.filter P).card : ℝ) : EReal) := by
  rw [← Finset.sum_filter, Finset.sum_const, nsmul_one]
  rfl

end Cert.Moe

end
-- ==== Proof.Slots.lean ====
/-
# The packed rows, one chunk at a time

The body prints the packing of each of the sixteen chunks separately. Each is the same function of the chunk's number.
-/
module

public import proofs.«01_k».proof.Proof.Words
public import Idealize.ShloMosaic.Lib.Pipeline.Value

@[expose] public section

noncomputable section

namespace Cert.Moe

open Cert.KernelIdeal Cert.KernelIdeal.Gen
open Idealize.ShloMosaic

variable {F : FTy → Type} [FloatOps F]

theorem slicesRow : ∀ k : Fin 16, Shape.Slices S16x64 ![k.val, 0] S1x64 := by decide
theorem slicesChunk : ∀ k : Fin 16, Shape.Slices S1024x256 ![64 * k.val, 0] S64x256 := by decide

/-- Which of chunk `k`'s tokens stands in which slot: a row of ones and zeros for each slot. -/
def selV (A B : IVec S16x64 32) (k : Fin 16) : FVec F S16x64 .bf16 :=
  sitofp .bf16 (muli
    (subi (broadcast S16x64 1#32)
      (minsi (absi (subi (addi (broadcastTo S16x64 (extractStridedSlice S1x64 ![k.val, 0] B (slicesRow k)) broadcasts_S1x64_S16x64) k0_pay6) v161))
        (broadcast S16x64 1#32)))
    (addi (broadcastTo S16x64 (extractStridedSlice S1x64 ![k.val, 0] A (slicesRow k)) broadcasts_S1x64_S16x64) k0_pay6))

/-- Chunk `k`'s packed tokens. -/
def qV (G : FVec F S1024x256 .bf16) (A B : IVec S16x64 32) (k : Fin 16) : FVec F S16x256 .bf16 :=
  truncf .bf16 (matmul dot_S16x64_S64x256_S16x256_1_0_0_1_n_n none (selV (F := F) A B k)
    (extractStridedSlice S64x256 ![64 * k.val, 0] G (slicesChunk k)) (constant S16x256 .f32 0x00000000#32)) bitsLt_bf16_f32

/-- The experts of chunk `k`'s packed tokens. -/
def eV (A B : IVec S16x64 32) (u : Vec F S64x1 .i32) (k : Fin 16) : FVec F S16x1 .f32 :=
  matmul dot_S16x64_S64x1_S16x1_1_0_0_1_n_n none (extf .f32 (selV (F := F) A B k) bitsLt_bf16_f32)
    (sitofp .f32 (shapeCast S64x1 u shapeCasts_S64x1_S64x1)) (constant S16x1 .f32 0x00000000#32)

theorem catsQ (Q : Fin 16 → FVec F S16x256 .bf16) :
    Shape.Concatenates ((List.ofFn fun k => (⟨S16x256, Q k⟩ : (s : Shape) × (s.Idx → F .bf16))).map (·.1)) S256x256 0 := by
  show Shape.Concatenates (List.replicate 16 S16x256) S256x256 0; decide
theorem catsE (E : Fin 16 → FVec F S16x1 .f32) :
    Shape.Concatenates ((List.ofFn fun k => (⟨S16x1, E k⟩ : (s : Shape) × (s.Idx → F .f32))).map (·.1)) S256x1 0 := by
  show Shape.Concatenates (List.replicate 16 S16x1) S256x1 0; decide

section
variable (p : BitVec 32) (x : Vec F S1024x256 .bf16) (rw : Vec F S256x64 .bf16) (t : Vec F S1024x1 .i32) (x' : Vec F S1024x256 .bf16)
  (t' : Vec F S1024x1 .i32) (u : Fin 16 → Vec F S64x1 .i32)

local notation "Q" => qV (xg p x rw t x') (v150 (F := F) p t') (v160 (F := F) p t')
local notation "E" => fun k => eV (F := F) (v150 (F := F) p t') (v160 (F := F) p t') (u k) k

theorem qAll_eq : qAll p x rw t x' t' = concatenate S256x256 0 (List.ofFn fun k => ⟨S16x256, Q k⟩) (catsQ Q) := rfl
theorem eAll_eq : eAll p t' u = concatenate S256x1 0 (List.ofFn fun k => ⟨S16x1, (E) k⟩) (catsE E) := rfl

/-- The packed tokens at slot `i` of chunk `k`, and their experts. -/
theorem qAll_apply (k i : Fin 16) (d : Fin 256) : qAll p x rw t x' t' (ix2 (⟨16 * k.val + i.val, by omega⟩ : Fin 256) d) = Q k (ix2 i d) := by
  rw [qAll_eq]
  refine concatenate_ofFn_apply (t := S256x256) (s₁ := S16x256) 0 Q _ rfl 16 rfl _ k ?_ _ ?_ ?_
  · show (16 * k.val + i.val) / 16 = k.val; omega
  · show i.val = (16 * k.val + i.val) % 16; omega
  · intro b hb
    fin_cases b
    · exact absurd rfl hb
    · rfl
theorem eAll_apply (k i : Fin 16) : eAll p t' u (ix2 (⟨16 * k.val + i.val, by omega⟩ : Fin 256) (0 : Fin 1)) = (E) k (ix2 i (0 : Fin 1)) := by
  rw [eAll_eq]
  refine concatenate_ofFn_apply (t := S256x1) (s₁ := S16x1) 0 (E) _ rfl 16 rfl _ k ?_ _ ?_ ?_
  · show (16 * k.val + i.val) / 16 = k.val; omega
  · show i.val = (16 * k.val + i.val) % 16; omega
  · intro b hb
    fin_cases b
    · exact absurd rfl hb
    · rfl

end

end Cert.Moe

end
-- ==== Proof.Packed.lean ====
/-
# Which token stands in which slot

What the packing of a chunk computes when the routing table holds numbers below 64: a token whose expert the device owns
stands in the slot that counts the tokens of its chunk before it that the device owns too.
-/
module

public import proofs.«01_k».proof.Proof.Slots

@[expose] public section

noncomputable section

namespace Cert.Moe

open Cert.KernelIdeal Cert.KernelIdeal.Gen
open Idealize.ShloMosaic

set_option maxRecDepth 16384

/-- Token `s` of chunk `k`. -/
def tok (k : Fin 16) (s : Fin 64) : Fin 1024 := ⟨k.val * 64 + s.val, by omega⟩

theorem tok_def (k : Fin 16) (s : Fin 64) (h : k.val * 64 + s.val < 1024) : (⟨k.val * 64 + s.val, h⟩ : Fin 1024) = tok k s := rfl
theorem tok_swap (k : Fin 16) (s : Fin 64) (h : 64 * k.val + s.val < 1024) : (⟨64 * k.val + s.val, h⟩ : Fin 1024) = tok k s :=
  Fin.ext (by show 64 * k.val + s.val = k.val * 64 + s.val; omega)

section
variable (ρ : Fin 1024 → ℕ)

/-- How many tokens of chunk `k` up to `s` name an expert of device `o`. -/
def upTo (o : ℕ) (k : Fin 16) (s : Fin 64) : ℕ := (Finset.univ.filter fun s' : Fin 64 => ρ (tok k s') / 4 = o ∧ s'.val ≤ s.val).card

/-- How many tokens of chunk `k` before `s` name an expert of device `o`. -/
def before (o : ℕ) (k : Fin 16) (s : Fin 64) : ℕ := (Finset.univ.filter fun s' : Fin 64 => ρ (tok k s') / 4 = o ∧ s'.val < s.val).card

theorem upTo_le (o : ℕ) (k : Fin 16) (s : Fin 64) : upTo ρ o k s ≤ 64 := (Finset.card_filter_le _ _).trans (by simp)
theorem before_lt (o : ℕ) (k : Fin 16) (s : Fin 64) : before ρ o k s < 64 := by
  refine lt_of_lt_of_le (Finset.card_lt_card (t := Finset.univ) ?_) (by simp)
  refine Finset.ssubset_univ_iff.mpr fun h => ?_
  have := h ▸ Finset.mem_univ s
  simp at this

theorem upTo_eq {o : ℕ} {k : Fin 16} {s : Fin 64} (h : ρ (tok k s) / 4 = o) : upTo ρ o k s = before ρ o k s + 1 := by
  have e : (Finset.univ.filter fun s' : Fin 64 => ρ (tok k s') / 4 = o ∧ s'.val ≤ s.val)
      = insert s (Finset.univ.filter fun s' : Fin 64 => ρ (tok k s') / 4 = o ∧ s'.val < s.val) := by
    ext s'
    simp only [Finset.mem_filter, Finset.mem_univ, true_and, Finset.mem_insert]
    constructor
    · rintro ⟨h1, h2⟩
      rcases Nat.lt_or_ge s'.val s.val with h3 | h3
      · exact Or.inr ⟨h1, h3⟩
      · exact Or.inl (Fin.ext (by omega))
    · rintro (rfl | ⟨h1, h2⟩)
      · exact ⟨h, le_refl _⟩
      · exact ⟨h1, h2.le⟩
  unfold upTo before
  rw [e, Finset.card_insert_of_notMem (by simp)]

/-- Two tokens of one chunk and one owner stand in different slots. -/
theorem before_inj {o : ℕ} {k : Fin 16} {s s' : Fin 64} (h : ρ (tok k s) / 4 = o) (h' : ρ (tok k s') / 4 = o)
    (e : before ρ o k s = before ρ o k s') : s = s' := by
  have key : ∀ a b : Fin 64, ρ (tok k a) / 4 = o → a.val < b.val → before ρ o k a < before ρ o k b := by
    intro a b ha hab
    have : upTo ρ o k a ≤ before ρ o k b := by
      refine Finset.card_le_card fun x hx => ?_
      simp only [Finset.mem_filter, Finset.mem_univ, true_and] at hx ⊢
      exact ⟨hx.1, by omega⟩
    rw [upTo_eq ρ ha] at this
    omega
  rcases Nat.lt_trichotomy s.val s'.val with h1 | h1 | h1
  · have := key _ _ h h1; omega
  · exact Fin.ext h1
  · have := key _ _ h' h1; omega

variable {ρ} (hρ : ∀ n, ρ n < 64) {t : Vec Ideal S1024x1 .i32} (ht : ∀ n, t (ix2 n (0 : Fin 1)) = W (ρ n))

include hρ ht

/-- The mask: one where the device owns the token's expert. -/
theorem mask_eq {o : ℕ} (ho : o < 16) (k : Fin 16) (s : Fin 64) :
    v150 (F := Ideal) (W o) t (ix2 k s) = W (if ρ (tok k s) / 4 = o then 1 else 0) := by
  have : v150 (F := Ideal) (W o) t (ix2 k s) = bitW (IntOp.cmpi .eq (ownW (t (ix2 (tok k s) (0 : Fin 1)))) (W o)) := by
    pointwise [k0_pay4]; rfl
  have h := hρ (tok k s)
  rw [this, ht, ownW_eq h, eq_W (by omega) (by omega)]

/-- The slot before it is compared: the tokens counted up to this one, less one. -/
theorem rank_eq {o : ℕ} (ho : o < 16) (k : Fin 16) (s : Fin 64) :
    v160 (F := Ideal) (W o) t (ix2 k s) = IntOp.subi (W (upTo ρ o k s)) 1#32 := by
  have : v160 (F := Ideal) (W o) t (ix2 k s) = IntOp.subi (FloatOps.fptosi (F := Ideal) (φ := .f32) 32
      (∑ x : Fin 64, (FloatOps.sitofp .f32 (v150 (F := Ideal) (W o) t (ix2 k x)) : Ideal .f32)
        * (FloatOps.sitofp .f32 (bitW (IntOp.cmpi .sle (W x.val) (W s.val))) : Ideal .f32))) 1#32 := by
    pointwise [k0_pay5]; rfl
  rw [this]
  have e : ∀ x : Fin 64, (FloatOps.sitofp .f32 (v150 (F := Ideal) (W o) t (ix2 k x)) : Ideal .f32)
        * (FloatOps.sitofp .f32 (bitW (IntOp.cmpi .sle (W x.val) (W s.val))) : Ideal .f32)
      = if ρ (tok k x) / 4 = o ∧ x.val ≤ s.val then (1 : EReal) else 0 := by
    intro x
    rw [mask_eq hρ ht ho, sle_W (by omega) (by omega), sitofp_W _ (by split <;> decide), sitofp_W _ (by split <;> decide)]
    by_cases h1 : ρ (tok k x) / 4 = o <;> by_cases h2 : x.val ≤ s.val <;> simp [h1, h2]
  rw [Finset.sum_congr rfl fun x _ => e x, sum_one]
  exact congrArg (IntOp.subi · 1#32) (fptosi_nat (φ := .f32) (lt_of_le_of_lt (upTo_le ρ o k s) (by decide)))

/-- The one-hot rows: token `s` stands in slot `i`. -/
theorem sel_eq {o : ℕ} (ho : o < 16) (k i : Fin 16) (s : Fin 64) :
    selV (F := Ideal) (v150 (F := Ideal) (W o) t) (v160 (F := Ideal) (W o) t) k (ix2 i s)
      = if ρ (tok k s) / 4 = o ∧ before ρ o k s = i.val then (1 : EReal) else 0 := by
  have : selV (F := Ideal) (v150 (F := Ideal) (W o) t) (v160 (F := Ideal) (W o) t) k (ix2 i s)
      = (FloatOps.sitofp .bf16 (IntOp.muli (hitW (IntOp.addi (v160 (F := Ideal) (W o) t (ix2 k s)) 0#32) (W i.val))
        (IntOp.addi (v150 (F := Ideal) (W o) t (ix2 k s)) 0#32)) : Ideal .bf16) := by
    pointwise [selV, k0_pay6]; rfl
  rw [this, mask_eq hρ ht ho, rank_eq hρ ht ho]
  have h0 : ∀ a : BitVec 32, IntOp.addi a 0#32 = a := fun a => BitVec.add_zero a
  rw [h0, h0]
  by_cases h1 : ρ (tok k s) / 4 = o
  · have h2 : IntOp.subi (W (upTo ρ o k s)) 1#32 = W (before ρ o k s) := by
      rw [upTo_eq ρ h1]
      show W (before ρ o k s + 1) - 1#32 = _
      rw [W, BitVec.ofNat_add]
      exact BitVec.add_sub_cancel _ _
    rw [h2, hitW_eq (before_lt ρ o k s) (by omega), if_pos h1]
    by_cases h3 : before ρ o k s = i.val
    · rw [if_pos h3, if_pos ⟨h1, h3⟩]
      exact (sitofp_W .bf16 (a := 1) (by decide)).trans (by norm_num)
    · rw [if_neg h3, if_neg fun h => h3 h.2]
      exact (sitofp_W .bf16 (a := 0) (by decide)).trans (by norm_num)
  · rw [if_neg h1, if_neg fun h => h1 h.1]
    rw [show ∀ a : BitVec 32, IntOp.muli a (W 0) = W 0 from fun a => BitVec.mul_zero]
    exact (sitofp_W .bf16 (a := 0) (by decide)).trans (by norm_num)

/-- A sum over a chunk's tokens against a slot's row is the term of the token that stands there. -/
theorem sum_sel {o : ℕ} (ho : o < 16) (k i : Fin 16) {s : Fin 64} (hs : ρ (tok k s) / 4 = o) (hi : before ρ o k s = i.val) (f : Fin 64 → EReal) :
    ∑ s' : Fin 64, selV (F := Ideal) (v150 (F := Ideal) (W o) t) (v160 (F := Ideal) (W o) t) k (ix2 i s') * f s' = f s := by
  rw [Finset.sum_eq_single s]
  · rw [sel_eq hρ ht ho, if_pos ⟨hs, hi⟩]; exact one_mul _
  · intro s' _ hne
    rw [sel_eq hρ ht ho, if_neg fun h => hne (before_inj ρ h.1 hs (h.2.trans hi.symm))]; exact zero_mul _
  · exact fun h => absurd (Finset.mem_univ s) h

/-- Slot `i` of chunk `k` holds the scaled token that stands there. -/
theorem q_eq {o : ℕ} (ho : o < 16) (G : FVec Ideal S1024x256 .bf16) (k i : Fin 16) {s : Fin 64} (hs : ρ (tok k s) / 4 = o)
    (hi : before ρ o k s = i.val) (d : Fin 256) :
    qV G (v150 (F := Ideal) (W o) t) (v160 (F := Ideal) (W o) t) k (ix2 i d) = G (ix2 (tok k s) d) := by
  have : qV G (v150 (F := Ideal) (W o) t) (v160 (F := Ideal) (W o) t) k (ix2 i d)
      = ∑ s' : Fin 64, selV (F := Ideal) (v150 (F := Ideal) (W o) t) (v160 (F := Ideal) (W o) t) k (ix2 i s') * G (ix2 (tok k s') d) := by
    pointwise [qV]; simp only [tok_swap]
  rw [this]
  exact sum_sel hρ ht ho k i hs hi fun s' => G (ix2 (tok k s') d)

/-- And its expert's number. -/
theorem e_eq {o : ℕ} (ho : o < 16) (u : Vec Ideal S64x1 .i32) (k i : Fin 16) (hu : ∀ s, u (ix2 s (0 : Fin 1)) = t (ix2 (tok k s) (0 : Fin 1)))
    {s : Fin 64} (hs : ρ (tok k s) / 4 = o) (hi : before ρ o k s = i.val) :
    eV (F := Ideal) (v150 (F := Ideal) (W o) t) (v160 (F := Ideal) (W o) t) u k (ix2 i (0 : Fin 1)) = ((ρ (tok k s) : ℝ) : EReal) := by
  have : eV (F := Ideal) (v150 (F := Ideal) (W o) t) (v160 (F := Ideal) (W o) t) u k (ix2 i (0 : Fin 1))
      = ∑ s' : Fin 64, selV (F := Ideal) (v150 (F := Ideal) (W o) t) (v160 (F := Ideal) (W o) t) k (ix2 i s')
          * (FloatOps.sitofp .f32 (u (ix2 s' (0 : Fin 1))) : Ideal .f32) := by
    pointwise [eV]
  rw [this]
  refine (sum_sel hρ ht ho k i hs hi fun s' => (FloatOps.sitofp .f32 (u (ix2 s' (0 : Fin 1))) : Ideal .f32)).trans ?_
  show (FloatOps.sitofp .f32 (u (ix2 s (0 : Fin 1))) : Ideal .f32) = _
  rw [hu, ht]
  exact sitofp_W .f32 (lt_trans (hρ _) (by decide))

end

end Cert.Moe

end
-- ==== Proof.Payload.lean ====
/-
# What a device sends

The gate of a token, and the row a device makes of a token whose expert it owns: the token scaled by its gate, through
that expert's matrix.
-/
module

public import proofs.«01_k».proof.Proof.Packed
public import proofs.«01_k».proof.Proof.Phases

@[expose] public section

noncomputable section

namespace Cert.Moe

open Cert.KernelIdeal Cert.KernelIdeal.Gen
open Idealize.ShloMosaic

set_option maxRecDepth 16384

/-! ## The gate -/

section
variable (x : FVec Ideal S1024x256 .bf16) (rw : FVec Ideal S256x64 .bf16)

/-- The router's score of token `n` for expert `e`. -/
def score (n : Fin 1024) (e : Fin 64) : EReal := ∑ d : Fin 256, (x (ix2 n d) : EReal) * rw (ix2 d e)
/-- The greatest score of token `n`. -/
def top (n : Fin 1024) : EReal := Finset.fold max (Ideal.ofBits .f32 0xFF800000#32) (fun e => score x rw n e) Finset.univ
/-- The softmax of token `n`'s scores at expert `e`. -/
def prob (n : Fin 1024) (e : Fin 64) : EReal :=
  Ideal.div (Ideal.exp (score x rw n e - top x rw n)) (∑ e' : Fin 64, Ideal.exp (score x rw n e' - top x rw n))

end

section
variable {ρ : Fin 1024 → ℕ} (hρ : ∀ n, ρ n < 64) {t : Vec Ideal S1024x1 .i32} (ht : ∀ n, t (ix2 n (0 : Fin 1)) = W (ρ n))
  (x : FVec Ideal S1024x256 .bf16) (rw : FVec Ideal S256x64 .bf16)

include hρ ht in
/-- A token whose expert the device owns, scaled by its gate. -/
theorem xg_eq {o : ℕ} (ho : o < 16) (n : Fin 1024) (hn : ρ n / 4 = o) (d : Fin 256) :
    xg (F := Ideal) (W o) x rw t x (ix2 n d) = x (ix2 n d) * prob x rw n ⟨ρ n, hρ n⟩ := by
  have : xg (F := Ideal) (W o) x rw t x (ix2 n d)
      = Scalar.select (IntOp.cmpi .eq (ownW (t (ix2 n (0 : Fin 1)))) (W o))
        (x (ix2 n d) * ∑ e : Fin 64, Scalar.select (IntOp.cmpi .eq (W e.val) (t (ix2 n (0 : Fin 1)))) (prob x rw n e) 0) 0 := by
    pointwise [xg, k0_pay3, k0_pay1, k0_pay2]; rfl
  have h := hρ n
  rw [this, ht, ownW_eq h, hn]
  have h1 : ∀ a b : ℕ, a < 2 ^ 31 → b < 2 ^ 31 → IntOp.cmpi .eq (W a) (W b) = BitVec.ofBool (decide (a = b)) := by
    intro a b ha hb
    show BitVec.ofBool (W a == W b) = _
    congr 1
    rw [Bool.eq_iff_iff, beq_iff_eq, decide_eq_true_iff, W_inj ha hb]
  rw [h1 o o (by omega) (by omega), decide_eq_true rfl]
  show x (ix2 n d) * _ = _
  congr 1
  rw [Finset.sum_eq_single (⟨ρ n, h⟩ : Fin 64)]
  · rw [h1 _ _ (by show ρ n < _; omega) (by omega), decide_eq_true rfl]; rfl
  · intro e _ he
    rw [h1 _ _ (by omega) (by omega), decide_eq_false fun e' => he (Fin.ext e')]; rfl
  · exact fun h => absurd (Finset.mem_univ _) h

end

/-! ## Through the experts -/

section
variable {F : FTy → Type} [FloatOps F]

/-- One where a packed token names the device's expert `j`. -/
def markV (p j : BitVec 32) (e : FVec F S256x1 .f32) : FVec F S256x1 .bf16 :=
  truncf .bf16 (subf (broadcast S256x1 (Scalar.ofBits .f32 0x3F800000#32))
    (minimumf (absf (subf e (broadcast S256x1 (Scalar.sitofp .f32 (Scalar.addi (Scalar.muli p 4#32) j)))))
      (broadcast S256x1 (Scalar.ofBits .f32 0x3F800000#32)))) bitsLt_bf16_f32

/-- The packed tokens that name one expert through its matrix. -/
def partV (q : FVec F S256x256 .bf16) (m : FVec F S256x1 .bf16) (w : Vec F S1x256x512 .bf16) : FVec F S256x512 .f32 :=
  matmul dot_S256x256_S256x512_S256x512_1_0_0_1_n_n none (mulf q (broadcastTo S256x256 m broadcasts_S256x1_S256x256))
    (shapeCast S256x512 w shapeCasts_S1x256x512_S256x512) (constant S256x512 .f32 0x00000000#32)

theorem yAll_eq (p : BitVec 32) (x : Vec F S1024x256 .bf16) (rw : Vec F S256x64 .bf16) (t : Vec F S1024x1 .i32) (x' : Vec F S1024x256 .bf16)
    (t' : Vec F S1024x1 .i32) (u : Fin 16 → Vec F S64x1 .i32) (w : Fin 4 → Vec F S1x256x512 .bf16) :
    yAll p x rw t x' t' u w = truncf .bf16 (addf (addf (addf (addf (broadcast S256x512 (Scalar.ofBits .f32 0x00000000#32))
      (partV (qAll p x rw t x' t') (markV p 0#32 (eAll p t' u)) (w 0))) (partV (qAll p x rw t x' t') (markV p 1#32 (eAll p t' u)) (w 1)))
      (partV (qAll p x rw t x' t') (markV p 2#32 (eAll p t' u)) (w 2))) (partV (qAll p x rw t x' t') (markV p 3#32 (eAll p t' u)) (w 3)))
      bitsLt_bf16_f32 := rfl

end

/-- The mark is one at the expert named and zero elsewhere. -/
theorem mark_eq {o a j : ℕ} (ho : o < 16) (hj : j < 4) (ha : a < 64) (e : FVec Ideal S256x1 .f32) (r : Fin 256)
    (he : e (ix2 r (0 : Fin 1)) = ((a : ℝ) : EReal)) :
    markV (F := Ideal) (W o) (W j) e (ix2 r (0 : Fin 1)) = if a = 4 * o + j then (1 : EReal) else 0 := by
  have : markV (F := Ideal) (W o) (W j) e (ix2 r (0 : Fin 1))
      = (1 : EReal) - min (FloatOps.absf (F := Ideal) (φ := .f32) (e (ix2 r (0 : Fin 1)) - (FloatOps.sitofp .f32 (Scalar.addi (Scalar.muli (W o) 4#32) (W j)) : Ideal .f32))) 1 := by
    pointwise [markV]; rfl
  have hw : Scalar.addi (Scalar.muli (W o) 4#32) (W j) = W (4 * o + j) := by
    show W o * W 4 + W j = _
    rw [Nat.mul_comm 4 o]
    exact (congrArg (· + W j) (BitVec.ofNat_mul o 4).symm).trans (BitVec.ofNat_add _ _).symm
  rw [this, hw, sitofp_W .f32 (by omega), he]
  have habs : ∀ y : ℝ, FloatOps.absf (F := Ideal) (φ := .f32) ((y : ℝ) : EReal) = ((|y| : ℝ) : EReal) := fun y => by
    show max (y : EReal) (-(y : EReal)) = _
    rw [← EReal.coe_neg]
    exact (EReal.coe_strictMono.monotone.map_max (a := y) (b := -y)).symm
  rw [← EReal.coe_sub, habs]
  by_cases h : a = 4 * o + j
  · subst h; simp
  · rw [if_neg h, min_eq_right, ← EReal.coe_one, ← EReal.coe_sub, sub_self, EReal.coe_zero]
    rw [← EReal.coe_one, EReal.coe_le_coe_iff]
    have h1 : (a : ℤ) - ((4 * o + j : ℕ) : ℤ) ≠ 0 := by omega
    have h2 := Int.one_le_abs h1
    have : ((1 : ℤ) : ℝ) ≤ ((|(a : ℤ) - ((4 * o + j : ℕ) : ℤ)| : ℤ) : ℝ) := by exact_mod_cast h2
    simpa using this

section
variable {ρ : Fin 1024 → ℕ} (hρ : ∀ n, ρ n < 64) {t : Vec Ideal S1024x1 .i32} (ht : ∀ n, t (ix2 n (0 : Fin 1)) = W (ρ n))
  (x : FVec Ideal S1024x256 .bf16) (rw : FVec Ideal S256x64 .bf16) (u : Fin 16 → Vec Ideal S64x1 .i32)
  (hu : ∀ k s, u k (ix2 s (0 : Fin 1)) = t (ix2 (tok k s) (0 : Fin 1))) (w : Fin 4 → Vec Ideal S1x256x512 .bf16)

include hρ ht hu in
/-- The row of a token whose expert the device owns. -/
theorem y_eq {o : ℕ} (ho : o < 16) (k i : Fin 16) {s : Fin 64} (hs : ρ (tok k s) / 4 = o) (hi : before ρ o k s = i.val) (f : Fin 512) :
    yAll (F := Ideal) (W o) x rw t x t u w (ix2 (⟨16 * k.val + i.val, by omega⟩ : Fin 256) f)
      = ∑ d : Fin 256, (x (ix2 (tok k s) d) * prob x rw (tok k s) ⟨ρ (tok k s), hρ _⟩)
          * w ⟨ρ (tok k s) % 4, Nat.mod_lt _ (by decide)⟩ (ix3 (0 : Fin 1) d f) := by
  have hq : ∀ d, qAll (F := Ideal) (W o) x rw t x t (ix2 (⟨16 * k.val + i.val, by omega⟩ : Fin 256) d)
      = x (ix2 (tok k s) d) * prob x rw (tok k s) ⟨ρ (tok k s), hρ _⟩ := fun d => by
    rw [qAll_apply, q_eq hρ ht ho _ k i hs hi, xg_eq hρ ht x rw ho _ hs]
  have he : eAll (F := Ideal) (W o) t u (ix2 (⟨16 * k.val + i.val, by omega⟩ : Fin 256) (0 : Fin 1)) = ((ρ (tok k s) : ℝ) : EReal) := by
    rw [eAll_apply]; exact e_eq hρ ht ho (u k) k i (hu k) hs hi
  have hp : ∀ j : Fin 4, partV (F := Ideal) (qAll (W o) x rw t x t) (markV (W o) (W j.val) (eAll (F := Ideal) (W o) t u)) (w j)
        (ix2 (⟨16 * k.val + i.val, by omega⟩ : Fin 256) f)
      = if ρ (tok k s) % 4 = j.val then ∑ d : Fin 256, (x (ix2 (tok k s) d) * prob x rw (tok k s) ⟨ρ (tok k s), hρ _⟩)
          * w ⟨ρ (tok k s) % 4, Nat.mod_lt _ (by decide)⟩ (ix3 (0 : Fin 1) d f) else 0 := by
    intro j
    have : partV (F := Ideal) (qAll (W o) x rw t x t) (markV (W o) (W j.val) (eAll (F := Ideal) (W o) t u)) (w j)
        (ix2 (⟨16 * k.val + i.val, by omega⟩ : Fin 256) f)
        = ∑ d : Fin 256, (qAll (F := Ideal) (W o) x rw t x t (ix2 (⟨16 * k.val + i.val, by omega⟩ : Fin 256) d)
          * markV (F := Ideal) (W o) (W j.val) (eAll (F := Ideal) (W o) t u) (ix2 (⟨16 * k.val + i.val, by omega⟩ : Fin 256) (0 : Fin 1)))
          * w j (ix3 (0 : Fin 1) d f) := by
      pointwise [partV]
    rw [this]
    rw [mark_eq ho j.isLt (hρ _) _ _ he]
    by_cases h : ρ (tok k s) % 4 = j.val
    · have hj : (⟨ρ (tok k s) % 4, Nat.mod_lt _ (by decide)⟩ : Fin 4) = j := Fin.ext h
      rw [if_pos h, if_pos (by omega), hj]
      refine Finset.sum_congr rfl fun d _ => ?_
      rw [hq]; congr 1; exact mul_one _
    · rw [if_neg h, if_neg (by omega)]
      refine Finset.sum_eq_zero fun d _ => ?_
      refine (congrArg (· * _) (mul_zero _)).trans (zero_mul _)
  rw [yAll_eq]
  have h4 : ρ (tok k s) % 4 < 4 := Nat.mod_lt _ (by decide)
  generalize hz : (∑ d : Fin 256, (x (ix2 (tok k s) d) * prob x rw (tok k s) ⟨ρ (tok k s), hρ _⟩)
          * w ⟨ρ (tok k s) % 4, Nat.mod_lt _ (by decide)⟩ (ix3 (0 : Fin 1) d f) : EReal) = z at hp ⊢
  have hsum : ∀ q0 q1 q2 q3 : FVec Ideal S256x512 .f32, ∀ r, truncf (F := Ideal) .bf16 (addf (addf (addf (addf (broadcast S256x512 (Scalar.ofBits .f32 0x00000000#32)) q0) q1) q2) q3) bitsLt_bf16_f32 r
      = (q0 r + q1 r + q2 r + q3 r : EReal) := by
    intro q0 q1 q2 q3 r; pointwise
  rw [hsum]
  have e0 := hp 0; have e1 := hp 1; have e2 := hp 2; have e3 := hp 3
  refine (congrArg₂ (· + ·) (congrArg₂ (· + ·) (congrArg₂ (· + ·) e0 e1) e2) e3).trans ?_
  have : ρ (tok k s) % 4 = 0 ∨ ρ (tok k s) % 4 = 1 ∨ ρ (tok k s) % 4 = 2 ∨ ρ (tok k s) % 4 = 3 := by omega
  rcases this with h | h | h | h <;> rw [h] <;> simp

end

end Cert.Moe

end
-- ==== Proof.Combine.lean ====
/-
# What a device makes of the rows it receives

A token's row lies in the landing buffer under the distance of its expert's owner, at the slot that counts the tokens of
the chunk before it with the same owner. The one-hot matrix picks it.
-/
module

public import proofs.«01_k».proof.Proof.Payload
public import proofs.«01_k».proof.Proof.Body

@[expose] public section

noncomputable section

namespace Cert.Moe

open Cert.KernelIdeal Cert.KernelIdeal.Gen
open Idealize.ShloMosaic

set_option maxRecDepth 16384

/-- A sum of words of which one at most is not zero. -/
theorem fold_one (κ : Fin 16) (v : BitVec 32) (f : Fin 16 → BitVec 32) (hκ : f κ = v) (h : ∀ k, k ≠ κ → f k = 0#32) :
    Finset.fold IntOp.addi 0#32 f Finset.univ = v := by
  have hz : ∀ S : Finset (Fin 16), κ ∉ S → Finset.fold IntOp.addi 0#32 f S = 0#32 := by
    intro S
    induction S using Finset.induction_on with
    | empty => intro _; rfl
    | insert a S ha ih =>
      intro hn
      rw [Finset.fold_insert ha, ih fun hm => hn (Finset.mem_insert_of_mem hm), h a fun e => hn (e ▸ Finset.mem_insert_self a S)]
      rfl
  rw [← Finset.insert_erase (Finset.mem_univ κ), Finset.fold_insert (Finset.notMem_erase _ _), hz _ (Finset.notMem_erase _ _), hκ]
  exact BitVec.add_zero v

section
variable {ρ : Fin 1024 → ℕ} (hρ : ∀ n, ρ n < 64) {c : ℕ} (hc : c < 16) (k : Fin 16) {u : Vec Ideal S64x1 .i32}
  (hu : ∀ s, u (ix2 s (0 : Fin 1)) = W (ρ (tok k s)))

/-- How far up the mesh from the owner of the token's expert device `c` lies. -/
def far (c a : ℕ) : ℕ := (c + 16 - a / 4) % 16
theorem far_lt (c a : ℕ) : far c a < 16 := Nat.mod_lt _ (by decide)
theorem farW_far {c a : ℕ} (hc : c < 16) (ha : a < 64) : farW (W c) (W a) = W (far c a) := farW_eq hc ha

include hρ hc hu

/-- The slot of token `s`, as the combining device counts it. -/
def slotW (p : BitVec 32) (u : Vec Ideal S64x1 .i32) (s : Fin 64) : BitVec 32 :=
  Finset.fold IntOp.addi 0#32 (fun x : Fin 16 => IntOp.muli (bitW (IntOp.cmpi .eq (farW p (u (ix2 s (0 : Fin 1)))) (W x.val)))
    (FloatOps.fptosi (F := Ideal) (φ := .f32) 32 (∑ s' : Fin 64,
      (FloatOps.sitofp .f32 (bitW (IntOp.cmpi .sgt (W s.val) (W s'.val))) : Ideal .f32)
        * (FloatOps.sitofp .f32 (bitW (IntOp.cmpi .eq (farW p (u (ix2 s' (0 : Fin 1)))) (W x.val))) : Ideal .f32)))) Finset.univ

theorem slotW_eq (s : Fin 64) : slotW (W c) u s = W (before ρ (ρ (tok k s) / 4) k s) := by
  have hs := hρ (tok k s)
  refine fold_one ⟨far c (ρ (tok k s)), far_lt _ _⟩ _ _ ?_ ?_
  · rw [hu, farW_far hc hs]
    show IntOp.muli (bitW (IntOp.cmpi .eq (W (far c (ρ (tok k s)))) (W (far c (ρ (tok k s)))))) _ = _
    rw [eq_W (lt_trans (far_lt _ _) (by decide)) (lt_trans (far_lt _ _) (by decide)), if_pos rfl]
    have e : ∀ s' : Fin 64, (FloatOps.sitofp .f32 (bitW (IntOp.cmpi .sgt (W s.val) (W s'.val))) : Ideal .f32)
        * (FloatOps.sitofp .f32 (bitW (IntOp.cmpi .eq (farW (W c) (u (ix2 s' (0 : Fin 1)))) (W (far c (ρ (tok k s)))))) : Ideal .f32)
        = if ρ (tok k s') / 4 = ρ (tok k s) / 4 ∧ s'.val < s.val then (1 : EReal) else 0 := by
      intro s'
      have hs' := hρ (tok k s')
      rw [hu, farW_far hc hs', sgt_W (by omega) (by omega)]
      rw [eq_W (lt_trans (far_lt c _) (by decide)) (lt_trans (far_lt _ _) (by decide)), sitofp_W _ (by split <;> decide), sitofp_W _ (by split <;> decide)]
      have hiff : far c (ρ (tok k s')) = far c (ρ (tok k s)) ↔ ρ (tok k s') / 4 = ρ (tok k s) / 4 := by unfold far; omega
      by_cases h1 : ρ (tok k s') / 4 = ρ (tok k s) / 4 <;> by_cases h2 : s'.val < s.val <;> simp [hiff, h1, h2]
    rw [Finset.sum_congr rfl fun x _ => e x, sum_one]
    refine (congrArg (IntOp.muli (W 1)) (fptosi_nat (φ := .f32) (lt_trans (before_lt ρ _ k s) (by decide)))).trans ?_
    exact BitVec.one_mul _
  · intro x hx
    rw [hu, farW_far hc hs]
    rw [eq_W (lt_trans (far_lt c _) (by decide)) (by omega), if_neg fun e => hx (Fin.ext e.symm)]
    exact BitVec.zero_mul

/-- The one-hot matrix: row `s` has its one at the place of the token's row. -/
theorem sc_eq (s : Fin 64) (j : Fin 256) (h16 : before ρ (ρ (tok k s) / 4) k s < 16) :
    scAll (F := Ideal) (W c) u (ix2 s j)
      = if j.val = 16 * far c (ρ (tok k s)) + before ρ (ρ (tok k s) / 4) k s then (1 : EReal) else 0 := by
  have : scAll (F := Ideal) (W c) u (ix2 s j)
      = (FloatOps.sitofp .bf16 (IntOp.muli (hitW (IntOp.addi (farW (W c) (u (ix2 s (0 : Fin 1)))) 0#32) (divW (W j.val)))
          (hitW (IntOp.addi (slotW (W c) u s) 0#32) (modW (W j.val)))) : Ideal .bf16) := by
    pointwise [scAll, k0_pay98, k0_pay93, k0_pay92, k0_pay89, k0_pay90, k0_pay91, k0_pay94, k0_pay95, k0_pay96, k0_pay97]
    rfl
  have h0 : ∀ a : BitVec 32, IntOp.addi a 0#32 = a := fun a => BitVec.add_zero a
  have hf := far_lt c (ρ (tok k s))
  have hj := j.isLt
  rw [this, h0, h0, slotW_eq hρ hc k hu, hu, farW_far hc (hρ _), divW_eq hj, modW_eq hj]
  rw [hitW_eq (lt_trans hf (by decide)) (by omega), hitW_eq (by omega) (by omega)]
  show (FloatOps.sitofp .bf16 (IntOp.muli (W (if far c (ρ (tok k s)) = _ then 1 else 0)) _) : Ideal .bf16) = _
  by_cases h1 : far c (ρ (tok k s)) = j.val / 16
  · by_cases h2 : before ρ (ρ (tok k s) / 4) k s = j.val % 16
    · rw [if_pos h1, if_pos h2, if_pos (by omega)]
      exact (sitofp_W .bf16 (a := 1) (by decide)).trans (by norm_num)
    · rw [if_pos h1, if_neg h2, if_neg (by omega)]
      exact (sitofp_W .bf16 (a := 0) (by decide)).trans (by norm_num)
  · rw [if_neg h1, if_neg (show ¬ j.val = 16 * far c (ρ (tok k s)) + before ρ (ρ (tok k s) / 4) k s by omega)]
    rw [show ∀ a : BitVec 32, IntOp.muli (W 0) a = W 0 from fun a => BitVec.zero_mul]
    exact (sitofp_W .bf16 (a := 0) (by decide)).trans (by norm_num)

/-- A device's chunk of the result: the shared expert's row and the row the token picks. -/
theorem acc_eq (a : FVec Ideal S64x512 .f32) (rs : Vec Ideal S16x16x512 .bf16) (s : Fin 64) (f : Fin 512)
    (h16 : before ρ (ρ (tok k s) / 4) k s < 16) :
    k0_pay99 (F := Ideal) a (scAll (F := Ideal) (W c) u) rs (ix2 s f)
      = (a (ix2 s f) + rs (ix3 (⟨far c (ρ (tok k s)), far_lt _ _⟩ : Fin 16) (⟨before ρ (ρ (tok k s) / 4) k s, h16⟩ : Fin 16) f) : EReal) := by
  have hf := far_lt c (ρ (tok k s))
  have : k0_pay99 (F := Ideal) a (scAll (F := Ideal) (W c) u) rs (ix2 s f)
      = (a (ix2 s f) + ∑ j : Fin 256, scAll (F := Ideal) (W c) u (ix2 s j)
          * rs (ix3 (⟨j.val / 16, by omega⟩ : Fin 16) (⟨j.val % 16, Nat.mod_lt _ (by decide)⟩ : Fin 16) f) : EReal) := by
    pointwise [k0_pay99]
  rw [this]
  congr 1
  rw [Finset.sum_eq_single (⟨16 * far c (ρ (tok k s)) + before ρ (ρ (tok k s) / 4) k s, by omega⟩ : Fin 256)]
  · rw [sc_eq hρ hc k hu s _ h16, if_pos rfl]
    refine (one_mul _).trans (congrArg rs ?_)
    congr 1 <;> refine Fin.ext ?_ <;> dsimp only <;> omega
  · intro j _ hj
    rw [sc_eq hρ hc k hu s _ h16, if_neg fun e => hj (Fin.ext e)]; exact zero_mul _
  · exact fun h => absurd (Finset.mem_univ _) h

end

/-! ## The result -/

theorem dn_far (c o : Fin 16) (h : (c.val + 16 - o.val) % 16 < 16) : dn c ⟨(c.val + 16 - o.val) % 16, h⟩ = o := by
  revert h; revert c o; decide +kernel

section
variable {ρ : Fin 1024 → ℕ} (hρ : ∀ n, ρ n < 64) (x : FVec Ideal S1024x256 .bf16) (rw : FVec Ideal S256x64 .bf16)
  (t : Vec Ideal S1024x1 .i32) (ht : ∀ n, t (ix2 n (0 : Fin 1)) = W (ρ n)) (E : Dev nD → Vec Ideal S4x256x512 .bf16) (sw : FVec Ideal S256x512 .bf16)
  (hcap : ∀ k s, before ρ (ρ (tok k s) / 4) k s < 16)

theorem read_tc (k : Fin 16) (s : Fin 64) : (tM.access (tcR k)).read (Elt Ideal) t (ix2 s (0 : Fin 1)) = t (ix2 (tok k s) (0 : Fin 1)) := by
  show t ((tcR k).emb _) = _
  refine congrArg t (funext fun a => Fin.ext ?_)
  fin_cases a
  · show 64 * k.val + 1 * s.val = k.val * 64 + s.val; omega
  · rfl
theorem read_uc (c : Dev nD) (s : Fin 64) : (tM.access (uR c)).read (Elt Ideal) t (ix2 s (0 : Fin 1)) = t (ix2 (tok c s) (0 : Fin 1)) := by
  have h : ∀ c : Fin 16, k0_off4 c = ![64 * c.val, 0] := by decide +kernel
  show t ((uR c).emb _) = _
  refine congrArg t (funext fun a => Fin.ext ?_)
  fin_cases a
  · show k0_off4 c 0 + 1 * s.val = c.val * 64 + s.val; rw [h]; show 64 * c.val + 1 * s.val = _; omega
  · show k0_off4 c 1 + 1 * 0 = 0; rw [h]; rfl
theorem read_xc (c : Dev nD) (s : Fin 64) (d : Fin 256) : (xM.access (xcR c)).read (Elt Ideal) x (ix2 s d) = x (ix2 (tok c s) d) := by
  have h : ∀ c : Fin 16, k0_off3 c = ![64 * c.val, 0] := by decide +kernel
  show x ((xcR c).emb _) = _
  refine congrArg x (funext fun a => Fin.ext ?_)
  fin_cases a
  · show k0_off3 c 0 + 1 * s.val = c.val * 64 + s.val; rw [h]; show 64 * c.val + 1 * s.val = _; omega
  · show k0_off3 c 1 + 1 * d.val = d.val; rw [h]; show 0 + 1 * d.val = _; omega
theorem read_e (w : Vec Ideal S4x256x512 .bf16) (j : Fin 4) (d : Fin 256) (f : Fin 512) :
    (eM.access (eR j)).read (Elt Ideal) w (ix3 (0 : Fin 1) d f) = w (ix3 j d f) := by
  show w ((eR j).emb _) = _
  refine congrArg w (funext fun a => Fin.ext ?_)
  fin_cases a
  · show j.val + 1 * 0 = j.val; omega
  · show 0 + 1 * d.val = d.val; omega
  · show 0 + 1 * f.val = f.val; omega

include ht hcap in
/-- The result at a token: the shared expert's row, and the scaled token through the matrix of its expert, which the
    expert's owner holds. -/
theorem ob_eq (n : Fin 1024) (f : Fin 512) :
    obF (F := Ideal) (fun _ => x) (fun _ => rw) (fun _ => t) E (fun _ => sw) (ix2 n f)
      = ((∑ d : Fin 256, x (ix2 n d) * sw (ix2 d f))
        + ∑ d : Fin 256, (x (ix2 n d) * prob x rw n ⟨ρ n, hρ n⟩)
          * E (⟨ρ n / 4, by have := hρ n; omega⟩ : Fin 16) (ix3 (⟨ρ n % 4, Nat.mod_lt _ (by decide)⟩ : Fin 4) d f) : EReal) := by
  obtain ⟨c, s, rfl⟩ : ∃ c s, n = tok c s :=
    ⟨⟨n.val / 64, by omega⟩, ⟨n.val % 64, Nat.mod_lt _ (by decide)⟩, Fin.ext (by show n.val = n.val / 64 * 64 + n.val % 64; omega)⟩
  have hs := hρ (tok c s)
  have e1 : obF (F := Ideal) (fun _ => x) (fun _ => rw) (fun _ => t) E (fun _ => sw) (ix2 (tok c s) f)
      = chunkV (F := Ideal) (fun _ => x) (fun _ => rw) (fun _ => t) E (fun _ => sw) c (ix2 s f) := by
    have h1 : (⟨(tok c s).val / 64, by omega⟩ : Fin 16) = c := Fin.ext (by show (c.val * 64 + s.val) / 64 = c.val; omega)
    have h2 : (⟨(tok c s).val % 64, Nat.mod_lt _ (by decide)⟩ : Fin 64) = s := Fin.ext (by show (c.val * 64 + s.val) % 64 = s.val; omega)
    show chunkV (F := Ideal) (fun _ => x) (fun _ => rw) (fun _ => t) E (fun _ => sw) (⟨(tok c s).val / 64, _⟩ : Fin 16)
      (ix2 (⟨(tok c s).val % 64, _⟩ : Fin 64) f) = _
    rw [h1, h2]
  rw [e1]
  unfold chunkV
  rw [place_eq, acc_eq hρ c.isLt c (fun s => (read_uc t c s).trans (ht _)) _ _ s f (hcap c s)]
  congr 1
  · have : ∀ a : Vec Ideal S64x256 .bf16, k0_pay88 (F := Ideal) a sw (ix2 s f) = (∑ d : Fin 256, a (ix2 s d) * sw (ix2 d f) : EReal) := by
      intro a; pointwise [k0_pay88]
    rw [this]
    exact Finset.sum_congr rfl fun d _ => by rw [read_xc]
  · have ho : ρ (tok c s) / 4 < 16 := by omega
    have hd : dn c ⟨far c.val (ρ (tok c s)), far_lt _ _⟩ = (⟨ρ (tok c s) / 4, ho⟩ : Fin 16) := dn_far c ⟨ρ (tok c s) / 4, ho⟩ _
    show pbF (F := Ideal) (fun _ => x) (fun _ => rw) (fun _ => t) E (dn c ⟨far c.val (ρ (tok c s)), far_lt _ _⟩)
      (ix3 c (⟨before ρ (ρ (tok c s) / 4) c s, hcap c s⟩ : Fin 16) f) = _
    rw [hd]
    have hsl : ∀ (y : FVec Ideal S256x512 .bf16) (k i : Fin 16), payOf (F := Ideal) y (ix3 k i f) = y (ix2 (⟨16 * k.val + i.val, by omega⟩ : Fin 256) f) := by
      intro y k i
      show slotVal y k (ix3 (0 : Fin 1) i f) = _
      pointwise [slotVal]
    unfold pbF payY
    rw [hsl, place_eq]
    refine (y_eq hρ ht x rw _ (fun k s => read_tc t k s) _ ho c ⟨before ρ (ρ (tok c s) / 4) c s, hcap c s⟩ rfl rfl f).trans ?_
    refine Finset.sum_congr rfl fun d _ => ?_
    rw [read_e]

end

end Cert.Moe

end
-- ==== Proof.Reference.lean ====
/-
# The reference's value

The reference's result at a token and a feature: the shared product, plus the token's gate times the token's product
with its expert's matrix.
-/
module

public import proofs.«01_k».proof.Proof.Payload
public import proofs.«01_k».proof.Proof.Gen.ReferenceIdeal.Run

@[expose] public section

noncomputable section

namespace Cert.Moe

open Cert.ReferenceIdeal Cert.ReferenceIdeal.Gen
open Idealize.ShloMosaic

set_option maxRecDepth 16384

/-! ## The two lookups -/

/-- The start index `[n, 0, 0]` at which the gate's lookup reads. -/
theorem pick_start (n : Fin 1024) (a : Fin 1) (idx : IVec S1024x1x1 32) :
    gather_S1024x64_S1024x1x1_S1024x1_n_1_0_0_1_2_11.start (ix2 n a) idx 1
      = min (idx (ix3 n a (0 : Fin 1))).toInt.toNat 63 := by
  unfold GatherDims.start
  rw [dif_pos (show (1 : Fin 2) ∈ gather_S1024x64_S1024x1x1_S1024x1_n_1_0_0_1_2_11.startIndexMap from List.mem_singleton.mpr rfl)]
  have : gather_S1024x64_S1024x1x1_S1024x1_n_1_0_0_1_2_11.siIdx (ix2 n a)
      ⟨List.idxOf (1 : Fin 2) gather_S1024x64_S1024x1x1_S1024x1_n_1_0_0_1_2_11.startIndexMap,
        List.idxOf_lt_length_iff.2 (List.mem_singleton.mpr rfl)⟩ = ix3 n a (0 : Fin 1) := by
    funext b; refine Fin.ext ?_
    match b with
    | ⟨0, _⟩ => rfl
    | ⟨1, _⟩ => rfl
    | ⟨2, _⟩ => rfl
  rw [this]; rfl

/-- One entry per row of an array of 1024 rows: row `n` is read in the column the index names. -/
theorem pick_eq {α : Type} (x : S1024x64.Idx → α) (idx : IVec S1024x1x1 32) (n : Fin 1024) (a : Fin 1) (e : Fin 64)
    (h : idx (ix3 n a (0 : Fin 1)) = W e.val) :
    Host.gather gather_S1024x64_S1024x1x1_S1024x1_n_1_0_0_1_2_11 x idx (ix2 n a) = x (ix2 n e) := by
  unfold Host.gather
  congr 1
  funext b
  refine Fin.ext ?_
  match b with
  | ⟨0, _⟩ =>
    show GatherDims.start _ (ix2 n a) idx 0 + GatherDims.batchCoord _ (ix2 n a) 0 + GatherDims.offCoord _ (ix2 n a) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x64_S1024x1x1_S1024x1_n_1_0_0_1_2_11.operandBatchingDims from List.mem_singleton.mpr rfl)]
    rfl
  | ⟨1, _⟩ =>
    show GatherDims.start _ (ix2 n a) idx 1 + GatherDims.batchCoord _ (ix2 n a) 1 + GatherDims.offCoord _ (ix2 n a) 1 = e.val
    rw [GatherDims.batchCoord_eq_zero _ _ _ (fun h => by
        have := List.mem_singleton.mp h; exact absurd this (by decide)),
      GatherDims.offCoord_eq_zero _ _ _ (fun h => ((GatherDims.mem_sKept _ _).mp h).1 (List.mem_singleton.mpr rfl)),
      pick_start, h, toInt_W (by omega)]
    have := e.isLt
    omega

/-- Only the first axis of the stack takes a start index. -/
theorem stack_free (a : Fin 3) (h : a ≠ 0) : a ∉ gather_S64x256x512_S1024x1_S1024x256x512_12_0_n_n_0_1_1256512.startIndexMap :=
  fun h' => h (List.mem_singleton.mp h')
/-- The other two axes are kept whole. -/
theorem stack_kept (a : Fin 3) (h : a ≠ 0) : a ∈ gather_S64x256x512_S1024x1_S1024x256x512_12_0_n_n_0_1_1256512.sKept :=
  (GatherDims.mem_sKept _ _).mpr ⟨fun h' => h (List.mem_singleton.mp h'), List.not_mem_nil⟩

/-- A matrix per token out of a stack of 64: token `n`'s is the one its index names. -/
theorem stack_eq {α : Type} (x : S64x256x512.Idx → α) (idx : IVec S1024x1 32) (n : Fin 1024) (d : Fin 256) (f : Fin 512) (e : Fin 64)
    (h : idx (ix2 n (0 : Fin 1)) = W e.val) :
    Host.gather gather_S64x256x512_S1024x1_S1024x256x512_12_0_n_n_0_1_1256512 x idx (ix3 n d f) = x (ix3 e d f) := by
  unfold Host.gather
  congr 1
  funext b
  refine Fin.ext ?_
  match b with
  | ⟨0, _⟩ =>
    show GatherDims.start _ (ix3 n d f) idx 0 + GatherDims.batchCoord _ (ix3 n d f) 0 + GatherDims.offCoord _ (ix3 n d f) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x256x512_S1024x1_S1024x256x512_12_0_n_n_0_1_1256512.startIndexMap from List.mem_singleton.mpr rfl)]
    have : gather_S64x256x512_S1024x1_S1024x256x512_12_0_n_n_0_1_1256512.siIdx (ix3 n d f)
        ⟨List.idxOf (0 : Fin 3) gather_S64x256x512_S1024x1_S1024x256x512_12_0_n_n_0_1_1256512.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [this, h, toInt_W (by omega)]
    have := e.isLt
    show min e.val 63 = e.val
    omega
  | ⟨1, _⟩ =>
    show GatherDims.start _ (ix3 n d f) idx 1 + GatherDims.batchCoord _ (ix3 n d f) 1 + GatherDims.offCoord _ (ix3 n d f) 1 = d.val
    rw [GatherDims.batchCoord_eq_zero _ _ _ List.not_mem_nil, Nat.add_zero]
    unfold GatherDims.start GatherDims.offCoord
    rw [dif_neg (stack_free 1 (by decide)), dif_pos (stack_kept 1 (by decide)), Nat.zero_add]
    rfl
  | ⟨2, _⟩ =>
    show GatherDims.start _ (ix3 n d f) idx 2 + GatherDims.batchCoord _ (ix3 n d f) 2 + GatherDims.offCoord _ (ix3 n d f) 2 = f.val
    rw [GatherDims.batchCoord_eq_zero _ _ _ List.not_mem_nil, Nat.add_zero]
    unfold GatherDims.start GatherDims.offCoord
    rw [dif_neg (stack_free 2 (by decide)), dif_pos (stack_kept 2 (by decide)), Nat.zero_add]
    rfl

/-! ## The parts -/

/-- The softmax of the scores, as the reference computes it. -/
def softmax (x : FVec Ideal S1024x256 .bf16) (rw : FVec Ideal S256x64 .bf16) : FVec Ideal S1024x64 .f32 :=
  (Host.divf (Host.exp (subf (Host.dotGeneral dot_S1024x256_S256x64_S1024x64_1_0_0_1_n_n none (extf .f32 x bitsLt_bf16_f32) (extf .f32 rw bitsLt_bf16_f32)) (broadcastInDim S1024x64 ![0, 1] bcast_S1024x1_S1024x64_0_1 (broadcastInDim S1024x1 ![0] bcast_S1024_S1024x1_0 (Host.reduce FloatOps.maximumf (Host.dotGeneral dot_S1024x256_S256x64_S1024x64_1_0_0_1_n_n none (extf .f32 x bitsLt_bf16_f32) (extf .f32 rw bitsLt_bf16_f32)) (constant S_ .f32 0xFF800000#32) reducesTo_S1024x64_S1024_d1 h_S_))))) (broadcastInDim S1024x64 ![0, 1] bcast_S1024x1_S1024x64_0_1 (broadcastInDim S1024x1 ![0] bcast_S1024_S1024x1_0 (Host.reduceAdd (Host.exp (subf (Host.dotGeneral dot_S1024x256_S256x64_S1024x64_1_0_0_1_n_n none (extf .f32 x bitsLt_bf16_f32) (extf .f32 rw bitsLt_bf16_f32)) (broadcastInDim S1024x64 ![0, 1] bcast_S1024x1_S1024x64_0_1 (broadcastInDim S1024x1 ![0] bcast_S1024_S1024x1_0 (Host.reduce FloatOps.maximumf (Host.dotGeneral dot_S1024x256_S256x64_S1024x64_1_0_0_1_n_n none (extf .f32 x bitsLt_bf16_f32) (extf .f32 rw bitsLt_bf16_f32)) (constant S_ .f32 0xFF800000#32) reducesTo_S1024x64_S1024_d1 h_S_))))) (constant S_ .f32 0x00000000#32) reducesTo_S1024x64_S1024_d1 h_S_))))

/-- The expert each token names, as the gate's lookup takes it: a negative one counted from the end. -/
def wrapped (t : Vec Ideal S1024x1 .i32) : IVec S1024x1x1 32 :=
  shapeCast S1024x1x1 (select (cmpi .slt t (broadcastInDim S1024x1 ![] bcast_S_S1024x1 (constantI S_ 32 0#32))) (addi t (broadcastInDim S1024x1 ![] bcast_S_S1024x1 (constantI S_ 32 64#32))) t) shapeCasts_S1024x1_S1024x1x1

/-- The expert each token names, as the matrix's lookup takes it. -/
def named (t : Vec Ideal S1024x1 .i32) : IVec S1024x1 32 :=
  broadcastInDim S1024x1 ![0] bcast_S1024_S1024x1_0 (shapeCast S1024 t shapeCasts_S1024x1_S1024)

/-- The reference's result. -/
def refV (x : FVec Ideal S1024x256 .bf16) (rw : FVec Ideal S256x64 .bf16) (t : Vec Ideal S1024x1 .i32)
    (E : FVec Ideal S64x256x512 .bf16) (sw : FVec Ideal S256x512 .bf16) : FVec Ideal S1024x512 .bf16 :=
  truncf .bf16 (addf (Host.dotGeneral dot_S1024x256_S256x512_S1024x512_1_0_0_1_n_n none (extf .f32 x bitsLt_bf16_f32) (extf .f32 sw bitsLt_bf16_f32))
    (mulf (broadcastInDim S1024x512 ![0, 1] bcast_S1024x1_S1024x512_0_1
        (Host.gather gather_S1024x64_S1024x1x1_S1024x1_n_1_0_0_1_2_11 (softmax x rw) (wrapped t)))
      (Host.dotGeneral dot_S1024x256_S1024x256x512_S1024x512_1_1_n_2_0_0 none (extf .f32 x bitsLt_bf16_f32)
        (Host.gather gather_S64x256x512_S1024x1_S1024x256x512_12_0_n_n_0_1_1256512 (extf .f32 E bitsLt_bf16_f32) (named t)))))
    bitsLt_bf16_f32

/-- At a token and an expert it is the gate of `prob`. -/
theorem softmax_eq (x : FVec Ideal S1024x256 .bf16) (rw : FVec Ideal S256x64 .bf16) (n : Fin 1024) (e : Fin 64) :
    softmax x rw (ix2 n e) = prob x rw n e := by
  pointwise [softmax]
  rfl

/-- A number below 64 is not wrapped. -/
theorem wrapped_eq (t : Vec Ideal S1024x1 .i32) (n : Fin 1024) (a : Fin 1) {e : ℕ} (he : e < 64) (h : t (ix2 n (0 : Fin 1)) = W e) :
    wrapped t (ix3 n a (0 : Fin 1)) = W e := by
  pointwise [wrapped]
  have hn : IntOp.cmpi .slt (t (ix2 n (0 : Fin 1))) 0#32 = 0#1 := by
    rw [h]
    show BitVec.ofBool (BitVec.slt (W e) 0#32) = _
    rw [BitVec.slt, toInt_W (by omega)]
    have : ¬((e : ℤ) < (0#32 : BitVec 32).toInt) := by
      show ¬((e : ℤ) < 0)
      omega
    rw [decide_eq_false this]
    rfl
  rw [hn]
  exact h

/-- The matrix's lookup takes the numbers as they are. -/
theorem named_eq (t : Vec Ideal S1024x1 .i32) (n : Fin 1024) : named t (ix2 n (0 : Fin 1)) = t (ix2 n (0 : Fin 1)) := by
  pointwise [named]

/-- The reference's result at token `n`, which names expert `e`, and feature `f`. -/
theorem ref_eq (x : FVec Ideal S1024x256 .bf16) (rw : FVec Ideal S256x64 .bf16) (t : Vec Ideal S1024x1 .i32)
    (E : FVec Ideal S64x256x512 .bf16) (sw : FVec Ideal S256x512 .bf16) (n : Fin 1024) (f : Fin 512) (e : Fin 64)
    (h : t (ix2 n (0 : Fin 1)) = W e.val) :
    refV x rw t E sw (ix2 n f)
      = ((∑ d : Fin 256, x (ix2 n d) * sw (ix2 d f)) + prob x rw n e * ∑ d : Fin 256, x (ix2 n d) * E (ix3 e d f) : EReal) := by
  have : refV x rw t E sw (ix2 n f)
      = ((∑ d : Fin 256, x (ix2 n d) * sw (ix2 d f))
        + Host.gather gather_S1024x64_S1024x1x1_S1024x1_n_1_0_0_1_2_11 (softmax x rw) (wrapped t) (ix2 n (0 : Fin 1))
          * ∑ d : Fin 256, x (ix2 n d) * Host.gather gather_S64x256x512_S1024x1_S1024x256x512_12_0_n_n_0_1_1256512 E (named t) (ix3 n d f) : EReal) := by
    pointwise [refV]
    rfl
  rw [this, pick_eq _ _ n 0 e (wrapped_eq t n 0 e.isLt h), softmax_eq]
  refine congrArg _ (congrArg _ (Finset.sum_congr rfl fun d _ => ?_))
  rw [stack_eq _ _ n d f e ((named_eq t n).trans h)]

end Cert.Moe

end
-- ==== Proof.Capacity.lean ====
/-
# What the precondition says

The arrays of which `within_capacity` holds: every token names an expert below 64; no device owns the experts of more
than 16 tokens of a chunk; the tokens' features and the router's weights are finite.
-/
module

public import proofs.«01_k».proof.Proof.Packed
public import proofs.«01_k».proof.Proof.Gen.Pre_within_capacity_KernelIdeal
public import Idealize.ShloMosaic.Lib.IndicatorCount

@[expose] public section

noncomputable section

namespace Cert.Moe

open Cert.KernelIdeal
open Idealize.ShloMosaic

set_option maxRecDepth 16384

section
variable (x : FVec Ideal S1024x256 .bf16) (rw : FVec Ideal S256x64 .bf16) (t : IVec S1024x1 32) (E : FVec Ideal S4x256x512 .bf16)
  (sw : FVec Ideal S256x512 .bf16)

/-- The first check: the number token `n` holds is not negative and is below 64. -/
theorem check_named (n : Fin 1024)
    (h : (Cert.Pre_within_capacity_KernelIdeal.fn (F := Ideal) x rw t E sw).1 = fun _ => 1#1) :
    0 ≤ (t (ix2 n (0 : Fin 1))).toInt ∧ (t (ix2 n (0 : Fin 1))).toInt < 64 := by
  have h0 := congrFun h (ix2 n (0 : Fin 1))
  have h1 : (Cert.Pre_within_capacity_KernelIdeal.fn (F := Ideal) x rw t E sw).1 (ix2 n (0 : Fin 1))
      = IntOp.andi (IntOp.cmpi .sge (t (ix2 n (0 : Fin 1))) 0#32) (IntOp.cmpi .slt (t (ix2 n (0 : Fin 1))) 64#32) := by
    pointwise [Cert.Pre_within_capacity_KernelIdeal.fn, Cert.Pre_within_capacity_KernelIdeal.fn_part1]
  have h2 : BitVec.ofBool (BitVec.sle 0#32 (t (ix2 n (0 : Fin 1)))) &&& BitVec.ofBool (BitVec.slt (t (ix2 n (0 : Fin 1))) 64#32) = 1#1 :=
    h1.symm.trans h0
  rw [BitVec.sle, BitVec.slt] at h2
  have e0 : (0#32 : BitVec 32).toInt = 0 := by decide
  have e1 : (64#32 : BitVec 32).toInt = 64 := by decide
  rw [e0, e1] at h2
  by_cases a : 0 ≤ (t (ix2 n (0 : Fin 1))).toInt <;> by_cases b : (t (ix2 n (0 : Fin 1))).toInt < 64
  · exact ⟨a, b⟩
  all_goals simp [a, b] at h2

/-- The expert token `n` names. -/
def expertOf (n : Fin 1024) : ℕ := (t (ix2 n (0 : Fin 1))).toInt.toNat

/-- It is below 64. -/
theorem expertOf_lt (h : (Cert.Pre_within_capacity_KernelIdeal.fn (F := Ideal) x rw t E sw).1 = fun _ => 1#1) (n : Fin 1024) :
    expertOf t n < 64 := by
  have := check_named x rw t E sw n h
  unfold expertOf
  omega

/-- The word the table holds is that number. -/
theorem expertOf_eq (h : (Cert.Pre_within_capacity_KernelIdeal.fn (F := Ideal) x rw t E sw).1 = fun _ => 1#1) (n : Fin 1024) :
    t (ix2 n (0 : Fin 1)) = W (expertOf t n) := by
  have h1 := check_named x rw t E sw n h
  apply BitVec.eq_of_toInt_eq
  rw [toInt_W (by have := expertOf_lt x rw t E sw h n; omega)]
  unfold expertOf
  omega

/-- A number below 64 lies among the four of device `o` as the check has it. -/
theorem among_eq {a o : ℕ} (ha : a < 64) (ho : o < 16) :
    IntOp.andi (IntOp.cmpi .sle (IntOp.muli 4#32 (BitVec.ofNat 32 o)) (W a))
      (IntOp.cmpi .slt (W a) (IntOp.addi (IntOp.muli 4#32 (BitVec.ofNat 32 o)) 4#32)) = BitVec.ofBool (decide (a / 4 = o)) := by
  have e1 : IntOp.muli 4#32 (BitVec.ofNat 32 o) = W (4 * o) := (BitVec.ofNat_mul 4 o).symm
  have e2 : IntOp.addi (W (4 * o)) 4#32 = W (4 * o + 4) := (BitVec.ofNat_add (4 * o) 4).symm
  rw [e1, e2]
  show BitVec.ofBool (BitVec.sle (W (4 * o)) (W a)) &&& BitVec.ofBool (BitVec.slt (W a) (W (4 * o + 4))) = _
  rw [BitVec.sle, BitVec.slt, toInt_W (by omega), toInt_W (by omega), toInt_W (by omega)]
  by_cases h : a / 4 = o
  · rw [decide_eq_true h, decide_eq_true (by omega), decide_eq_true (by omega)]; rfl
  · rw [decide_eq_false h]
    by_cases h1 : ((4 * o : ℕ) : ℤ) ≤ a
    · rw [decide_eq_false (p := ((a : ℕ) : ℤ) < ((4 * o + 4 : ℕ) : ℤ)) (by omega)]; simp
    · rw [decide_eq_false h1]; simp

/-- The second check: of the tokens of chunk `k` at most 16 name an expert of device `o`. -/
theorem check_count (hn : (Cert.Pre_within_capacity_KernelIdeal.fn (F := Ideal) x rw t E sw).1 = fun _ => 1#1)
    (h : (Cert.Pre_within_capacity_KernelIdeal.fn (F := Ideal) x rw t E sw).2.1 = fun _ => 1#1) (k o : Fin 16) :
    (Finset.univ.filter fun s : Fin 64 => expertOf t (tok k s) / 4 = o.val).card ≤ 16 := by
  have h0 := congrFun h (ix2 k o)
  have h1 : (Cert.Pre_within_capacity_KernelIdeal.fn (F := Ideal) x rw t E sw).2.1 (ix2 k o)
      = IntOp.cmpi .sle (Finset.fold IntOp.addi (0#32) (fun s : Fin 64 =>
          BitVec.setWidth 32
            (IntOp.andi
              (IntOp.cmpi .sle (IntOp.muli (4#32) (BitVec.ofNat 32 o.val)) (t (ix2 (tok k s) (0 : Fin 1))))
              (IntOp.cmpi .slt (t (ix2 (tok k s) (0 : Fin 1))) (IntOp.addi (IntOp.muli (4#32) (BitVec.ofNat 32 o.val)) 4#32))))
        Finset.univ) 16#32 := by
    pointwise [Cert.Pre_within_capacity_KernelIdeal.fn, Cert.Pre_within_capacity_KernelIdeal.fn_part1]; rfl
  rw [IndicatorCount.fold_addi_setWidth_eq_card] at h1
  have h2 : (Finset.univ.filter fun s : Fin 64 => IntOp.andi
              (IntOp.cmpi .sle (IntOp.muli (4#32) (BitVec.ofNat 32 o.val)) (t (ix2 (tok k s) (0 : Fin 1))))
              (IntOp.cmpi .slt (t (ix2 (tok k s) (0 : Fin 1))) (IntOp.addi (IntOp.muli (4#32) (BitVec.ofNat 32 o.val)) 4#32)) = 1#1)
      = Finset.univ.filter fun s : Fin 64 => expertOf t (tok k s) / 4 = o.val := by
    refine Finset.filter_congr fun s _ => ?_
    rw [expertOf_eq x rw t E sw hn, among_eq (expertOf_lt x rw t E sw hn _) o.isLt]
    by_cases hh : expertOf t (tok k s) / 4 = o.val <;> simp [hh]
  rw [h2] at h1
  have hc : (Finset.univ.filter fun s : Fin 64 => expertOf t (tok k s) / 4 = o.val).card ≤ 64 := (Finset.card_filter_le _ _).trans (by simp)
  have h3 : BitVec.ofBool (BitVec.sle (W (Finset.univ.filter fun s : Fin 64 => expertOf t (tok k s) / 4 = o.val).card) (W 16)) = 1#1 :=
    h1.symm.trans h0
  rw [BitVec.sle, toInt_W (by omega), toInt_W (by omega)] at h3
  by_contra hb
  rw [decide_eq_false (by omega)] at h3
  exact absurd h3 (by decide)

/-- So a token's owner has fewer than 16 tokens of its chunk before it. -/
theorem before_cap (hn : (Cert.Pre_within_capacity_KernelIdeal.fn (F := Ideal) x rw t E sw).1 = fun _ => 1#1)
    (h : (Cert.Pre_within_capacity_KernelIdeal.fn (F := Ideal) x rw t E sw).2.1 = fun _ => 1#1) (k : Fin 16) (s : Fin 64) :
    before (expertOf t) (expertOf t (tok k s) / 4) k s < 16 := by
  have hl := expertOf_lt x rw t E sw hn (tok k s)
  have hc := check_count x rw t E sw hn h k ⟨expertOf t (tok k s) / 4, by omega⟩
  refine lt_of_lt_of_le (Finset.card_lt_card ⟨fun a ha => ?_, fun hs => ?_⟩) hc
  · simp only [Finset.mem_filter, Finset.mem_univ, true_and] at ha ⊢
    exact ha.1
  · have := hs (show s ∈ _ by simp)
    simp at this

/-! ## The finite arrays -/

/-- The word of the infinity the last two checks compare with. -/
theorem ofBits_top : Ideal.ofBits .f32 0x7F800000#32 = ⊤ := by
  simp [Ideal.ofBits, Ideal.ieee]

/-- A number whose absolute value is below infinity is real. -/
theorem real_of_abs {v : EReal} (h : max v (-v) < ⊤) : ∃ r : ℝ, v = r := by
  refine ⟨v.toReal, (EReal.coe_toReal ?_ ?_).symm⟩
  · rintro rfl; simp at h
  · rintro rfl; simp at h

/-- The third check: the tokens' features are real. -/
theorem check_x (h : (Cert.Pre_within_capacity_KernelIdeal.fn (F := Ideal) x rw t E sw).2.2.1 = fun _ => 1#1) (n : Fin 1024) (d : Fin 256) :
    ∃ r : ℝ, (x (ix2 n d) : EReal) = r := by
  have h0 := congrFun h (ix2 n d)
  have h1 : (Cert.Pre_within_capacity_KernelIdeal.fn (F := Ideal) x rw t E sw).2.2.1 (ix2 n d)
      = BitVec.ofBool (decide (max (x (ix2 n d) : EReal) (-(x (ix2 n d) : EReal)) < Ideal.ofBits FTy.f32 0x7F800000#32)) := by
    pointwise [Cert.Pre_within_capacity_KernelIdeal.fn, Cert.Pre_within_capacity_KernelIdeal.fn_part1]; rfl
  rw [ofBits_top] at h1
  refine real_of_abs ?_
  by_contra hb
  rw [decide_eq_false hb, h0] at h1
  exact absurd h1 (by decide)

/-- The fourth check: the router's weights are real. -/
theorem check_rw (h : (Cert.Pre_within_capacity_KernelIdeal.fn (F := Ideal) x rw t E sw).2.2.2 = fun _ => 1#1) (d : Fin 256) (e : Fin 64) :
    ∃ r : ℝ, (rw (ix2 d e) : EReal) = r := by
  have h0 := congrFun h (ix2 d e)
  have h1 : (Cert.Pre_within_capacity_KernelIdeal.fn (F := Ideal) x rw t E sw).2.2.2 (ix2 d e)
      = BitVec.ofBool (decide (max (rw (ix2 d e) : EReal) (-(rw (ix2 d e) : EReal)) < Ideal.ofBits FTy.f32 0x7F800000#32)) := by
    pointwise [Cert.Pre_within_capacity_KernelIdeal.fn, Cert.Pre_within_capacity_KernelIdeal.fn_part1]; rfl
  rw [ofBits_top] at h1
  refine real_of_abs ?_
  by_contra hb
  rw [decide_eq_false hb, h0] at h1
  exact absurd h1 (by decide)

end

end Cert.Moe

end
-- ==== Proof.Gate.lean ====
/-
# The gate is a number

The softmax of real scores is real and not negative, so a gate may be taken out of the product with an expert's matrix,
whatever extended reals that matrix holds.
-/
module

public import proofs.«01_k».proof.Proof.Payload

@[expose] public section

noncomputable section

namespace Cert.Moe

open Cert.KernelIdeal
open Idealize.ShloMosaic

/-- The word of the value a maximum starts from. -/
theorem ofBits_bot : Ideal.ofBits .f32 0xFF800000#32 = ⊥ := by
  simp [Ideal.ofBits, Ideal.ieee]

/-- A finite sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of the scores of a nonempty family of reals, started below all of them, is real. -/
theorem fold_max_real {ι : Type} (S : Finset ι) (f : ι → ℝ) (hS : S.Nonempty) :
    ∃ r : ℝ, Finset.fold max (⊥ : EReal) (fun i => (f i : EReal)) S = r := by
  classical
  induction hS using Finset.Nonempty.cons_induction with
  | singleton a => exact ⟨f a, by simp⟩
  | cons a S ha _ ih =>
    obtain ⟨r, hr⟩ := ih
    refine ⟨max (f a) r, ?_⟩
    rw [Finset.fold_cons, hr]
    exact (EReal.coe_strictMono.monotone.map_max (a := f a) (b := r)).symm

/-- The softmax of real scores is real and not negative. -/
theorem prob_real (x : FVec Ideal S1024x256 .bf16) (rw : FVec Ideal S256x64 .bf16)
    (hx : ∀ n d, ∃ r : ℝ, (x (ix2 n d) : EReal) = r) (hr : ∀ d e, ∃ r : ℝ, (rw (ix2 d e) : EReal) = r) (n : Fin 1024) (e : Fin 64) :
    ∃ r : ℝ, 0 ≤ r ∧ prob x rw n e = r := by
  choose X hX using hx
  choose R hR using hr
  have hs : ∀ e, score x rw n e = ((∑ d, X n d * R d e : ℝ) : EReal) := by
    intro e
    unfold score
    rw [coe_sum]
    exact Finset.sum_congr rfl fun d _ => by rw [hX, hR, EReal.coe_mul]
  obtain ⟨T, hT⟩ : ∃ T : ℝ, top x rw n = T := by
    unfold top
    rw [ofBits_bot, funext hs]
    exact fold_max_real _ _ Finset.univ_nonempty
  have hexp : ∀ e, Ideal.exp (score x rw n e - top x rw n) = ((Real.exp ((∑ d, X n d * R d e) - T) : ℝ) : EReal) := by
    intro e
    rw [hs, hT, ← EReal.coe_sub]
    rfl
  unfold prob
  rw [hexp, Finset.sum_congr rfl fun e' _ => hexp e', ← coe_sum]
  have hpos : 0 < ∑ e', Real.exp ((∑ d, X n d * R d e') - T) :=
    Finset.sum_pos (fun _ _ => Real.exp_pos _) Finset.univ_nonempty
  unfold Ideal.div
  rw [if_neg (fun h => hpos.ne' (EReal.coe_eq_zero.mp h)), ← EReal.coe_inv, ← EReal.coe_mul]
  exact ⟨_, by positivity, rfl⟩

/-- A real that is not negative goes into a finite sum. -/
theorem mul_sum_real {ι : Type} (S : Finset ι) (f : ι → EReal) {r : ℝ} (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (EReal.coe_nonneg.mpr hr) (EReal.coe_ne_top r) _ _

/-- Scaling each feature by the gate is scaling the product. -/
theorem gate_out {ι : Type} (S : Finset ι) (a w : ι → EReal) {g : EReal} (hg : ∃ r : ℝ, 0 ≤ r ∧ g = r) :
    ∑ i ∈ S, (a i * g) * w i = g * ∑ i ∈ S, a i * w i := by
  obtain ⟨r, hr, rfl⟩ := hg
  rw [mul_sum_real _ _ hr]
  refine Finset.sum_congr rfl fun i _ => ?_
  rw [mul_comm (a i), mul_assoc]

end Cert.Moe

end
-- ==== Proof.Value.lean ====
/-
# The value

The kernel and the reference, both over exact values and within the capacity, give one array.
-/
module

public import proofs.«01_k».proof.Proof.Frames
public import proofs.«01_k».proof.Proof.Combine
public import proofs.«01_k».proof.Proof.Reference
public import proofs.«01_k».proof.Proof.Capacity
public import proofs.«01_k».proof.Proof.Gate
public import Idealize.ShloMosaic.Lib.Layout

@[expose] public section

noncomputable section

namespace Cert.Moe

open Idealize.ShloMosaic Idealize.SL.Sem
open Cert.KernelIdeal

/-- Device `c` holds experts `4 c` to `4 c + 3`: its `j`-th is expert `4 c + j`. -/
theorem block_at (v : Vec Ideal Cert.ReferenceIdeal.S64x256x512 .bf16) (c : Fin 16) (j : Fin 4) (d : Fin 256) (f : Fin 512) (e : Fin 64)
    (he : e.val = c.val * 4 + j.val) :
    Layout.block ⟨3, ![4, 256, 512]⟩ ⟨3, ![64, 256, 512]⟩ 0 16 c v (by decide) (ix3 j d f) = v (ix3 e d f) := by
  rw [Layout.block_apply]
  refine congrArg v (funext fun b => Fin.ext ?_)
  rw [Layout.Tiles.idx_val]
  match b with
  | ⟨0, _⟩ => exact he.symm
  | ⟨1, _⟩ => rfl
  | ⟨2, _⟩ => rfl

/-- The kernel's array is the reference's. -/
theorem value_eq (x : FVec Ideal S1024x256 .bf16) (rw : FVec Ideal S256x64 .bf16) (t : IVec S1024x1 32)
    (v : FVec Ideal Cert.ReferenceIdeal.S64x256x512 .bf16) (E : Dev nD → Vec Ideal S4x256x512 .bf16) (sw : FVec Ideal S256x512 .bf16)
    (hE : ∀ c, E c = Layout.block ⟨3, ![4, 256, 512]⟩ ⟨3, ![64, 256, 512]⟩ 0 16 c v (by decide))
    (h1 : (Cert.Pre_within_capacity_KernelIdeal.fn (F := Ideal) x rw t (E 0) sw).1 = fun _ => 1#1)
    (h2 : (Cert.Pre_within_capacity_KernelIdeal.fn (F := Ideal) x rw t (E 0) sw).2.1 = fun _ => 1#1)
    (h3 : (Cert.Pre_within_capacity_KernelIdeal.fn (F := Ideal) x rw t (E 0) sw).2.2.1 = fun _ => 1#1)
    (h4 : (Cert.Pre_within_capacity_KernelIdeal.fn (F := Ideal) x rw t (E 0) sw).2.2.2 = fun _ => 1#1) :
    obF (F := Ideal) (fun _ => x) (fun _ => rw) (fun _ => t) E (fun _ => sw) = refV x rw t v sw := by
  have hρ := expertOf_lt x rw t (E 0) sw h1
  have ht := expertOf_eq x rw t (E 0) sw h1
  funext i
  obtain ⟨n, f, rfl⟩ : ∃ (n : Fin 1024) (f : Fin 512), i = ix2 n f := ⟨i 0, i 1, eq_ix2 i⟩
  refine (ob_eq hρ x rw t ht E sw (before_cap x rw t (E 0) sw h1 h2) n f).trans ?_
  refine Eq.trans ?_ (ref_eq x rw t v sw n f ⟨expertOf t n, hρ n⟩ (ht n)).symm
  refine congrArg _ ?_
  rw [gate_out _ _ _ (prob_real x rw (check_x x rw t (E 0) sw h3) (check_rw x rw t (E 0) sw h4) n _)]
  refine congrArg _ (Finset.sum_congr rfl fun d _ => ?_)
  rw [hE, block_at v _ _ d f ⟨expertOf t n, hρ n⟩ (by show expertOf t n = expertOf t n / 4 * 4 + expertOf t n % 4; omega)]

/-- The reference's result from the memory it starts in. -/
def refM (m' : (ℓ : Loc Cert.ReferenceIdeal.nD Cert.ReferenceIdeal.τ Cert.ReferenceIdeal.sig) → Buf (Elt Ideal) ℓ) :
    FVec Ideal Cert.ReferenceIdeal.S1024x512 .bf16 :=
  refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

/-- The claim: within the capacity, every device's result is the reference's. -/
theorem algebraic : Cert.algebraic_KernelIdeal_ReferenceIdeal_pre_within_capacity_KernelIdeal := by
  intro m g m' g' hpre hargs
  refine ⟨refM m', ?_, ?_⟩
  · have hX : stX m = fun _ => m' (((0 : Dev Cert.ReferenceIdeal.nD).tc : Thread Cert.ReferenceIdeal.nD Cert.ReferenceIdeal.τ).loc Cert.ReferenceIdeal.main_arg0) :=
      funext fun c => (stX_eq m c).trans (hargs c).1
    have hR : stR m = fun _ => m' (((0 : Dev Cert.ReferenceIdeal.nD).tc : Thread Cert.ReferenceIdeal.nD Cert.ReferenceIdeal.τ).loc Cert.ReferenceIdeal.main_arg1) :=
      funext fun c => (stR_eq m c).trans (hargs c).2.1
    have hT : stT m = fun _ => m' (((0 : Dev Cert.ReferenceIdeal.nD).tc : Thread Cert.ReferenceIdeal.nD Cert.ReferenceIdeal.τ).loc Cert.ReferenceIdeal.main_arg2) :=
      funext fun c => (stT_eq m c).trans (hargs c).2.2.1
    have hS : stS m = fun _ => m' (((0 : Dev Cert.ReferenceIdeal.nD).tc : Thread Cert.ReferenceIdeal.nD Cert.ReferenceIdeal.τ).loc Cert.ReferenceIdeal.main_arg4) :=
      funext fun c => (stS_eq m c).trans (hargs c).2.2.2.2
    have hE : ∀ c, stE m c = _ := fun c => (stE_eq m c).trans (hargs c).2.2.2.1
    have hp := hpre (0 : Dev nD)
    rw [(hargs 0).1, (hargs 0).2.1, (hargs 0).2.2.1, (hargs 0).2.2.2.2] at hp
    have hv : obM m = refM m' := by
      unfold obM
      rw [hX, hR, hT, hS]
      have e0 := stE_eq m 0
      refine value_eq _ _ _ _ (stE m) _ hE ?_ ?_ ?_ ?_ <;> rw [e0]
      exacts [hp.1, hp.2.1, hp.2.2.1, hp.2.2.2]
    exact (θ_run _ _ _).mono (fun _ h c => ⟨(h.1 c).1.trans hv, (h.1 c).2⟩) (run_main m g)
  · exact (θ_run _ _ _).mono (fun _ h => h 0) (Cert.ReferenceIdeal.Value.run m' g')

end Cert.Moe

end
-- ==== Proof.lean ====
/-
# The claims of a mixture of experts over sixteen devices

Every run of the kernel, of its idealization and of the reference ends with the arguments as they were and the counters at
zero (`Frames`); the idealization is the kernel's own text; within the capacity the kernel's result on every device is the
reference's (`Value`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_within_capacity_KernelIdeal
public import proofs.«01_k».proof.Proof.Gen.Pre_within_capacity_ReferenceIdeal
public import proofs.«01_k».proof.Proof.Frames
public import proofs.«01_k».proof.Proof.Value

@[expose] public section

noncomputable section

namespace Cert.Proof

/-- All the claims, with the side conditions of the printed programs. -/
theorem claim : Cert.Claim :=
  ⟨Cert.Kernel.Gen.facts, Cert.KernelIdeal.Gen.facts, Cert.ReferenceIdeal.Gen.facts,
    Cert.Pre_within_capacity_KernelIdeal.Gen.facts, Cert.Pre_within_capacity_ReferenceIdeal.Gen.facts,
    Cert.Moe.frame_kernel, Cert.Moe.frame_ideal, Cert.Moe.frame_ideal_pre, Cert.Moe.frame_reference, Cert.Moe.frame_reference_pre,
    trivial, Cert.Moe.algebraic⟩

end Cert.Proof

end
